-- ==== Defs.lean ====
def Pre_Kernel [hPre_ids : Cert.Pre_ids.Facts] (m : (ℓ : Loc Cert.Kernel.nD Cert.Kernel.τ Cert.Kernel.sig) → Buf (Elt Bits) ℓ) : Prop :=
  ∀ c : Dev Cert.Kernel.nD,
    (Cert.Pre_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids : Cert.Pre_ids.Facts] (m : (ℓ : Loc Cert.KernelIdeal.nD Cert.KernelIdeal.τ Cert.KernelIdeal.sig) → Buf (Elt Ideal) ℓ) : Prop :=
  ∀ c : Dev Cert.KernelIdeal.nD,
    (Cert.Pre_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids : Cert.Pre_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids : Cert.Pre_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids : Cert.Pre_ids.Facts) (hPre_pre : Cert.Pre_pre.Facts),
    quiescent_Kernel (hKernel := hKernel) (hPre_ids := hPre_ids)
    ∧ quiescent_KernelIdeal (hKernelIdeal := hKernelIdeal) (hPre_ids := hPre_ids)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_ids.lean ====
abbrev S100000x4x128 : Shape := ⟨3, ![100000, 4, 128]⟩
abbrev S4x128 : Shape := ⟨2, ![4, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x4x128 .f32) (main_arg1 : FVec F S4x128 .f32) (main_arg2 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 1024#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_pre.lean ====
abbrev S100000x4x128 : Shape := ⟨3, ![100000, 4, 128]⟩
abbrev S4x128 : Shape := ⟨2, ![4, 128]⟩
abbrev S100000 : Shape := ⟨1, ![100000]⟩
abbrev S_ : Shape := ⟨0, ![]⟩
abbrev S99999 : Shape := ⟨1, ![99999]⟩
abbrev S100000x4x4 : Shape := ⟨3, ![100000, 4, 4]⟩
abbrev S100000x4 : Shape := ⟨2, ![100000, 4]⟩
abbrev S1024x4 : Shape := ⟨2, ![1024, 4]⟩
abbrev S100000x1 : Shape := ⟨2, ![100000, 1]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  reducesTo_S100000x4x4_S100000x4_d1 : S100000x4x4.ReducesTo [1] S100000x4
  bcast_S_S1024x4 : S_.BroadcastsInDim S1024x4 (![] : Fin 0 → Fin S1024x4.rank)
  bcast_S100000_S100000x1_0 : S100000.BroadcastsInDim S100000x1 (![0] : Fin 1 → Fin S100000x1.rank)
  bcast_S_S100000x4 : S_.BroadcastsInDim S100000x4 (![] : Fin 0 → Fin S100000x4.rank)
  reducesTo_S100000x4_S_d0_1 : S100000x4.ReducesTo [0, 1] S_
  dot_S100000x4x128_S4x128_S100000x4x4_2_1_01_0_n_n_wf : DotDims.WF S100000x4x128 S4x128 S100000x4x4 [2] [1] [0, 1] [0] [] []
  scatter_S1024x4_S100000x1_S100000x4_1_0_0_1_wf : ScatterDims.WF S1024x4 S100000x1 S100000x4 [1] [0] [0] 1
  gather_S1024x4_S100000x1_S100000x4_1_0_n_n_0_1_14_wf : GatherDims.WF S1024x4 S100000x1 S100000x4 [1] [0] [] [0] [] 1 ![1, 4]

variable [Facts]

def dot_S100000x4x128_S4x128_S100000x4x4_2_1_01_0_n_n : DotDims S100000x4x128 S4x128 S100000x4x4 where
  lhsContracting := [2]
  rhsContracting := [1]
  lhsNonContracting := [0, 1]
  rhsNonContracting := [0]
  lhsBatch := []
  rhsBatch := []
  wf := dot_S100000x4x128_S4x128_S100000x4x4_2_1_01_0_n_n_wf
def scatter_S1024x4_S100000x1_S100000x4_1_0_0_1 : ScatterDims S1024x4 S100000x1 S100000x4 where
  updateWindowDims := [1]
  insertedWindowDims := [0]
  scatterDimsToOperandDims := [0]
  indexVectorDim := 1
  wf := scatter_S1024x4_S100000x1_S100000x4_1_0_0_1_wf
def gather_S1024x4_S100000x1_S100000x4_1_0_n_n_0_1_14 : GatherDims S1024x4 S100000x1 S100000x4 where
  offsetDims := [1]
  collapsedSliceDims := [0]
  operandBatchingDims := []
  startIndicesBatchingDims := []
  startIndexMap := [0]
  indexVectorDim := 1
  sliceSizes := ![1, 4]
  wf := gather_S1024x4_S100000x1_S100000x4_1_0_n_n_0_1_14_wf
def fn_part1 {F : FTy → Type} [FloatOps F] (main_arg2 : IVec S100000 32) (main_v15 : FVec F S1024x4 .f32) (main_v16 : IVec S_ 1) (main_c_4 : IVec S_ 32) : IVec S_ 1 :=
  let main_v17 : IVec S100000 32 := broadcastInDim S100000 ![] bcast_S_S100000 main_c_4
  let main_v18 : IVec S100000 1 := cmpi .slt main_arg2 main_v17
  let main_c_5 : IVec S_ 32 := constantI S_ 32 1024#32
  let main_v19 : IVec S100000 32 := broadcastInDim S100000 ![] bcast_S_S100000 main_c_5
  let main_v20 : IVec S100000 32 := addi main_arg2 main_v19
  let main_v21 : IVec S100000 32 := select main_v18 main_v20 main_arg2
  let main_v22 : IVec S100000x1 32 := broadcastInDim S100000x1 ![0] bcast_S100000_S100000x1_0 main_v21
  let main_v23 : FVec F S100000x4 .f32 := (fun x i => Host.gather gather_S1024x4_S100000x1_S100000x4_1_0_n_n_0_1_14 x i) main_v15 main_v22
  let main_cst_6 : FVec F S_ .f32 := constant S_ .f32 0x3089705F#32
  let main_v24 : FVec F S100000x4 .f32 := broadcastInDim S100000x4 ![] bcast_S_S100000x4 main_cst_6
  let main_v25 : IVec S100000x4 1 := cmpf .oge main_v23 main_v24
  let main_c_7 : IVec S_ 1 := constantI S_ 1 1#1
  let main_v26 : IVec S_ 1 := (fun x v => Host.reduce IntOp.andi x v reducesTo_S100000x4_S_d0_1 h_S_) main_v25 main_c_7
  let main_v27 : IVec S_ 1 := andi main_v16 main_v26
  main_v27

def fn {F : FTy → Type} [FloatOps F] (main_arg0 : FVec F S100000x4x128 .f32) (main_arg1 : FVec F S4x128 .f32) (main_arg2 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 1024#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg2
  let main_v7 : IVec S99999 32 := (extractStridedSlice S99999 ![1] · slices_S100000_S99999_1) main_arg2
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : FVec F S100000x4x4 .f32 := (fun l r => Host.dotGeneral dot_S100000x4x128_S4x128_S100000x4x4_2_1_01_0_n_n none l r) main_arg0 main_arg1
  let main_v11 : FVec F S100000x4x4 .f32 := Host.exp main_v10
  let main_cst : FVec F S_ .f32 := constant S_ .f32 0x00000000#32
  let main_v12 : FVec F S100000x4 .f32 := (fun x v => Host.reduceAdd x v reducesTo_S100000x4x4_S100000x4_d1 h_S_) main_v11 main_cst
  let main_cst_3 : FVec F S_ .f32 := constant S_ .f32 0x00000000#32
  let main_v13 : FVec F S1024x4 .f32 := broadcastInDim S1024x4 ![] bcast_S_S1024x4 main_cst_3
  let main_v14 : IVec S100000x1 32 := broadcastInDim S100000x1 ![0] bcast_S100000_S100000x1_0 main_arg2
  let main_v15 : FVec F S1024x4 .f32 := (fun x i u => Host.scatterAdd scatter_S1024x4_S100000x1_S100000x4_1_0_0_1 x i u) main_v13 main_v14 main_v12
  let main_v16 : IVec S_ 1 := andi main_v5 main_v9
  let main_c_4 : IVec S_ 32 := constantI S_ 32 0#32
  fn_part1 (F := F) main_arg2 main_v15 main_v16 main_c_4
-- ==== Kernel.lean ====
abbrev S100000x4x128 : Shape := ⟨3, ![100000, 4, 128]⟩
abbrev S4x128 : Shape := ⟨2, ![4, 128]⟩
abbrev S100000 : Shape := ⟨1, ![100000]⟩
abbrev S100000x4x1x128 : Shape := ⟨4, ![100000, 4, 1, 128]⟩
abbrev S25x1x4000 : Shape := ⟨3, ![25, 1, 4000]⟩
abbrev S100000x1 : Shape := ⟨2, ![100000, 1]⟩
abbrev S_ : Shape := ⟨0, ![]⟩
abbrev S4x128x4x4 : Shape := ⟨4, ![4, 128, 4, 4]⟩
abbrev S128x4 : Shape := ⟨2, ![128, 4]⟩
abbrev S1 : Shape := ⟨1, ![1]⟩
abbrev S2 : Shape := ⟨1, ![2]⟩
abbrev S512x16 : Shape := ⟨2, ![512, 16]⟩
abbrev S100000x16 : Shape := ⟨2, ![100000, 16]⟩
abbrev S1152x4 : Shape := ⟨2, ![1152, 4]⟩
abbrev S1x1x4000 : Shape := ⟨3, ![1, 1, 4000]⟩
abbrev S4000x1x1x128 : Shape := ⟨4, ![4000, 1, 1, 128]⟩
abbrev S4000x16 : Shape := ⟨2, ![4000, 16]⟩
abbrev S4000x128 : Shape := ⟨2, ![4000, 128]⟩
abbrev S4000x512 : Shape := ⟨2, ![4000, 512]⟩
abbrev S4000x4 : Shape := ⟨2, ![4000, 4]⟩
abbrev S1x4000 : Shape := ⟨2, ![1, 4000]⟩
abbrev S1x1 : Shape := ⟨2, ![1, 1]⟩
abbrev S128x4000 : Shape := ⟨2, ![128, 4000]⟩
abbrev S1152x512 : Shape := ⟨2, ![1152, 512]⟩
abbrev S4000x1 : Shape := ⟨2, ![4000, 1]⟩
abbrev S128x512 : Shape := ⟨2, ![128, 512]⟩
abbrev S1024x512 : Shape := ⟨2, ![1024, 512]⟩
abbrev S1024x4x128 : Shape := ⟨3, ![1024, 4, 128]⟩
abbrev S100000x4x4 : Shape := ⟨3, ![100000, 4, 4]⟩
abbrev S1024 : Shape := ⟨1, ![1024]⟩

abbrev nBuf : Space → Nat
  | .hbm => 42
  | .vmem => 35
  | .smem => 0
  | _ => 0

abbrev bufTy : (tb : Table) → Fin (tcTables nBuf tb) → BufTy
  | .hbm, ⟨0, _⟩ => ⟨S100000x4x128, .f32⟩
  | .hbm, ⟨1, _⟩ => ⟨S4x128, .f32⟩
  | .hbm, ⟨2, _⟩ => ⟨S100000, .i32⟩
  | .hbm, ⟨3, _⟩ => ⟨S100000x4x1x128, .f32⟩
  | .hbm, ⟨4, _⟩ => ⟨S25x1x4000, .i32⟩
  | .hbm, ⟨5, _⟩ => ⟨S100000x1, .i32⟩
  | .hbm, ⟨6, _⟩ => ⟨S_, .f32⟩
  | .hbm, ⟨7, _⟩ => ⟨S4x128x4x4, .f32⟩
  | .hbm, ⟨8, _⟩ => ⟨S128x4, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S4x128x4x4, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S4x128x4x4, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S4x128x4x4, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S4x128x4x4, .f32⟩
  | .hbm, ⟨33, _⟩ => ⟨S512x16, .f32⟩
  | .hbm, ⟨34, _⟩ => ⟨S100000x16, .f32⟩
  | .hbm, ⟨35, _⟩ => ⟨S1152x4, .f32⟩
  | .hbm, ⟨36, _⟩ => ⟨S100000x16, .f32⟩
  | .hbm, ⟨37, _⟩ => ⟨S1152x512, .f32⟩
  | .hbm, ⟨38, _⟩ => ⟨S1024x512, .f32⟩
  | .hbm, ⟨39, _⟩ => ⟨S1024x4x128, .f32⟩
  | .hbm, ⟨40, _⟩ => ⟨S100000x4x4, .f32⟩
  | .hbm, ⟨41, _⟩ => ⟨S1024, .i32⟩
  | .local _ .vmem, ⟨0, _⟩ => ⟨S1x1x4000, .i32⟩
  | .local _ .vmem, ⟨1, _⟩ => ⟨S1x1x4000, .i32⟩
  | .local _ .vmem, ⟨2, _⟩ => ⟨S4000x1x1x128, .f32⟩
  | .local _ .vmem, ⟨3, _⟩ => ⟨S4000x1x1x128, .f32⟩
  | .local _ .vmem, ⟨4, _⟩ => ⟨S4000x1x1x128, .f32⟩
  | .local _ .vmem, ⟨5, _⟩ => ⟨S4000x1x1x128, .f32⟩
  | .local _ .vmem, ⟨6, _⟩ => ⟨S4000x1x1x128, .f32⟩
  | .local _ .vmem, ⟨7, _⟩ => ⟨S4000x1x1x128, .f32⟩
  | .local _ .vmem, ⟨8, _⟩ => ⟨S4000x1x1x128, .f32⟩
  | .local _ .vmem, ⟨9, _⟩ => ⟨S4000x1x1x128, .f32⟩
  | .local _ .vmem, ⟨10, _⟩ => ⟨S512x16, .f32⟩
  | .local _ .vmem, ⟨11, _⟩ => ⟨S4000x16, .f32⟩
  | .local _ .vmem, ⟨12, _⟩ => ⟨S4000x16, .f32⟩
  | .local _ .vmem, ⟨13, _⟩ => ⟨S1152x4, .f32⟩
  | .local _ .vmem, ⟨14, _⟩ => ⟨S1152x4, .f32⟩
  | .local _ .vmem, ⟨15, _⟩ => ⟨S1x1x4000, .i32⟩
  | .local _ .vmem, ⟨16, _⟩ => ⟨S1x1x4000, .i32⟩
  | .local _ .vmem, ⟨17, _⟩ => ⟨S4000x1, .i32⟩
  | .local _ .vmem, ⟨18, _⟩ => ⟨S4000x1, .i32⟩
  | .local _ .vmem, ⟨19, _⟩ => ⟨S4000x16, .f32⟩
  | .local _ .vmem, ⟨20, _⟩ => ⟨S4000x16, .f32⟩
  | .local _ .vmem, ⟨21, _⟩ => ⟨S1152x4, .f32⟩
  | .local _ .vmem, ⟨22, _⟩ => ⟨S4000x1x1x128, .f32⟩
  | .local _ .vmem, ⟨23, _⟩ => ⟨S4000x1x1x128, .f32⟩
  | .local _ .vmem, ⟨24, _⟩ => ⟨S4000x1x1x128, .f32⟩
  | .local _ .vmem, ⟨25, _⟩ => ⟨S4000x1x1x128, .f32⟩
  | .local _ .vmem, ⟨26, _⟩ => ⟨S4000x1x1x128, .f32⟩
  | .local _ .vmem, ⟨27, _⟩ => ⟨S4000x1x1x128, .f32⟩
  | .local _ .vmem, ⟨28, _⟩ => ⟨S4000x1x1x128, .f32⟩
  | .local _ .vmem, ⟨29, _⟩ => ⟨S4000x1x1x128, .f32⟩
  | .local _ .vmem, ⟨30, _⟩ => ⟨S4000x16, .f32⟩
  | .local _ .vmem, ⟨31, _⟩ => ⟨S4000x16, .f32⟩
  | .local _ .vmem, ⟨32, _⟩ => ⟨S1152x512, .f32⟩
  | .local _ .vmem, ⟨33, _⟩ => ⟨S4000x4, .f32⟩
  | .local _ .vmem, ⟨34, _⟩ => ⟨S1152x512, .f32⟩
  | _, _ => ⟨S100000x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v23_0 : Ref sig .tc := ⟨.hbm, 36, rfl⟩
abbrev main_v23_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_scratch0 : Ref sig .tc := ⟨.vmem, 33, rfl⟩
abbrev cc1_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31

abbrev nD : Nat := 1
abbrev τ : Topo := Topo.v7x

variable {F : FTy → Type} [FloatOps F]

abbrev grid0 : Pipeline.Grid := ⟨1, ![25], ![false]⟩

@[reducible] def k0_t1_loop (v27 : BitVec 32) (v29 : BitVec 32) : Scf.Loop 32 :=
  let c0_i32_37 : BitVec 32 := 0#32
  let c0_i32_23 : BitVec 32 := 0#32
  let v31 : BitVec 1 := Scalar.cmpi .sgt v27 c0_i32_23
  let v32 : BitVec 32 := Scalar.extui v31
  let c0_i32_24 : BitVec 32 := 0#32
  let v33 : BitVec 1 := Scalar.cmpi .slt v27 c0_i32_24
  let v34 : BitVec 32 := Scalar.extui v33
  let v35 : BitVec 32 := Scalar.subi v32 v34
  let c8_i32 : BitVec 32 := 8#32
  let c0_i32_25 : BitVec 32 := 0#32
  let v36 : BitVec 1 := Scalar.cmpi .sgt c8_i32 c0_i32_25
  let v37 : BitVec 32 := Scalar.extui v36
  let c0_i32_26 : BitVec 32 := 0#32
  let v38 : BitVec 1 := Scalar.cmpi .slt c8_i32 c0_i32_26
  let v39 : BitVec 32 := Scalar.extui v38
  let v40 : BitVec 32 := Scalar.subi v37 v39
  let v41 : BitVec 1 := Scalar.cmpi .ne v35 v40
  let v42 : BitVec 32 := Scalar.remsi v27 c8_i32
  let c0_i32_27 : BitVec 32 := 0#32
  let v43 : BitVec 1 := Scalar.cmpi .ne v42 c0_i32_27
  let v44 : BitVec 1 := Scalar.andi v41 v43
  let v30 : BitVec 32 := Scalar.divsi v27 c8_i32
  let c1_i32 : BitVec 32 := 1#32
  let v45 : BitVec 32 := Scalar.subi v30 c1_i32
  let v46 : BitVec 32 := Scalar.select v44 v45 v30
  let c8_i32_28 : BitVec 32 := 8#32
  let v47 : BitVec 32 := Scalar.muli v46 c8_i32_28
  let v48 : BitVec 32 := Scalar.subi v29 v47
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c1_i32_35 : BitVec 32 := 1#32
  let v66 : BitVec 32 := Scalar.addi v65 c1_i32_35
  let v69 : BitVec 32 := Scalar.subi v66 c0_i32_37
  let c1_i32_38 : BitVec 32 := 1#32
  let v71 : BitVec 32 := Scalar.divsi v69 c1_i32_38
  let v72 : BitVec 32 := Scalar.muli v71 c1_i32_38
  let v73 : BitVec 32 := Scalar.addi c0_i32_37 v72
  let c1_i32_39 : BitVec 32 := 1#32
  ⟨c0_i32_37, v73, c1_i32_39⟩

def k0_off1 (v27 : BitVec 32) (v29 : BitVec 32) (k0_t1 : Fin (k0_t1_loop v27 v29).trips) : Fin 2 → Nat :=
  let c0_i32_23 : BitVec 32 := 0#32
  let v31 : BitVec 1 := Scalar.cmpi .sgt v27 c0_i32_23
  let v32 : BitVec 32 := Scalar.extui v31
  let c0_i32_24 : BitVec 32 := 0#32
  let v33 : BitVec 1 := Scalar.cmpi .slt v27 c0_i32_24
  let v34 : BitVec 32 := Scalar.extui v33
  let v35 : BitVec 32 := Scalar.subi v32 v34
  let c8_i32 : BitVec 32 := 8#32
  let c0_i32_25 : BitVec 32 := 0#32
  let v36 : BitVec 1 := Scalar.cmpi .sgt c8_i32 c0_i32_25
  let v37 : BitVec 32 := Scalar.extui v36
  let c0_i32_26 : BitVec 32 := 0#32
  let v38 : BitVec 1 := Scalar.cmpi .slt c8_i32 c0_i32_26
  let v39 : BitVec 32 := Scalar.extui v38
  let v40 : BitVec 32 := Scalar.subi v37 v39
  let v41 : BitVec 1 := Scalar.cmpi .ne v35 v40
  let v42 : BitVec 32 := Scalar.remsi v27 c8_i32
  let c0_i32_27 : BitVec 32 := 0#32
  let v43 : BitVec 1 := Scalar.cmpi .ne v42 c0_i32_27
  let v44 : BitVec 1 := Scalar.andi v41 v43
  let v30 : BitVec 32 := Scalar.divsi v27 c8_i32
  let c1_i32 : BitVec 32 := 1#32
  let v45 : BitVec 32 := Scalar.subi v30 c1_i32
  let v46 : BitVec 32 := Scalar.select v44 v45 v30
  let c8_i32_28 : BitVec 32 := 8#32
  let v47 : BitVec 32 := Scalar.muli v46 c8_i32_28
  let c0_i32_37 : BitVec 32 := 0#32
  let c1_i32_39 : BitVec 32 := 1#32
  let arg10 : BitVec 32 := Scf.iv c0_i32_37 c1_i32_39 k0_t1
  let c128_i32_42 : BitVec 32 := 128#32
  let v77 : BitVec 32 := Scalar.muli arg10 c128_i32_42
  let v78 : BitVec 32 := Scalar.addi v47 v77
  let v86 : Index := Scalar.indexCast v78
  let c0_45 : Index := 0#32
  ![v86.toNat, 0]
@[reducible] def k0_t2_loop (v27 : BitVec 32) (v29 : BitVec 32) : Scf.Loop 32 :=
  let c0_i32_37 : BitVec 32 := 0#32
  let c0_i32_23 : BitVec 32 := 0#32
  let v31 : BitVec 1 := Scalar.cmpi .sgt v27 c0_i32_23
  let v32 : BitVec 32 := Scalar.extui v31
  let c0_i32_24 : BitVec 32 := 0#32
  let v33 : BitVec 1 := Scalar.cmpi .slt v27 c0_i32_24
  let v34 : BitVec 32 := Scalar.extui v33
  let v35 : BitVec 32 := Scalar.subi v32 v34
  let c8_i32 : BitVec 32 := 8#32
  let c0_i32_25 : BitVec 32 := 0#32
  let v36 : BitVec 1 := Scalar.cmpi .sgt c8_i32 c0_i32_25
  let v37 : BitVec 32 := Scalar.extui v36
  let c0_i32_26 : BitVec 32 := 0#32
  let v38 : BitVec 1 := Scalar.cmpi .slt c8_i32 c0_i32_26
  let v39 : BitVec 32 := Scalar.extui v38
  let v40 : BitVec 32 := Scalar.subi v37 v39
  let v41 : BitVec 1 := Scalar.cmpi .ne v35 v40
  let v42 : BitVec 32 := Scalar.remsi v27 c8_i32
  let c0_i32_27 : BitVec 32 := 0#32
  let v43 : BitVec 1 := Scalar.cmpi .ne v42 c0_i32_27
  let v44 : BitVec 1 := Scalar.andi v41 v43
  let v30 : BitVec 32 := Scalar.divsi v27 c8_i32
  let c1_i32 : BitVec 32 := 1#32
  let v45 : BitVec 32 := Scalar.subi v30 c1_i32
  let v46 : BitVec 32 := Scalar.select v44 v45 v30
  let c8_i32_28 : BitVec 32 := 8#32
  let v47 : BitVec 32 := Scalar.muli v46 c8_i32_28
  let v48 : BitVec 32 := Scalar.subi v29 v47
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c1_i32_35 : BitVec 32 := 1#32
  let v66 : BitVec 32 := Scalar.addi v65 c1_i32_35
  let v69 : BitVec 32 := Scalar.subi v66 c0_i32_37
  let c1_i32_38 : BitVec 32 := 1#32
  let v71 : BitVec 32 := Scalar.divsi v69 c1_i32_38
  let v72 : BitVec 32 := Scalar.muli v71 c1_i32_38
  let v73 : BitVec 32 := Scalar.addi c0_i32_37 v72
  let v70 : BitVec 32 := Scalar.addi c0_i32_37 v69
  let c1_i32_40 : BitVec 32 := 1#32
  ⟨v73, v70, c1_i32_40⟩
def k0_off2 (v27 : BitVec 32) (v29 : BitVec 32) (k0_t2 : Fin (k0_t2_loop v27 v29).trips) : Fin 2 → Nat :=
  let c0_i32_23 : BitVec 32 := 0#32
  let v31 : BitVec 1 := Scalar.cmpi .sgt v27 c0_i32_23
  let v32 : BitVec 32 := Scalar.extui v31
  let c0_i32_24 : BitVec 32 := 0#32
  let v33 : BitVec 1 := Scalar.cmpi .slt v27 c0_i32_24
  let v34 : BitVec 32 := Scalar.extui v33
  let v35 : BitVec 32 := Scalar.subi v32 v34
  let c8_i32 : BitVec 32 := 8#32
  let c0_i32_25 : BitVec 32 := 0#32
  let v36 : BitVec 1 := Scalar.cmpi .sgt c8_i32 c0_i32_25
  let v37 : BitVec 32 := Scalar.extui v36
  let c0_i32_26 : BitVec 32 := 0#32
  let v38 : BitVec 1 := Scalar.cmpi .slt c8_i32 c0_i32_26
  let v39 : BitVec 32 := Scalar.extui v38
  let v40 : BitVec 32 := Scalar.subi v37 v39
  let v41 : BitVec 1 := Scalar.cmpi .ne v35 v40
  let v42 : BitVec 32 := Scalar.remsi v27 c8_i32
  let c0_i32_27 : BitVec 32 := 0#32
  let v43 : BitVec 1 := Scalar.cmpi .ne v42 c0_i32_27
  let v44 : BitVec 1 := Scalar.andi v41 v43
  let v30 : BitVec 32 := Scalar.divsi v27 c8_i32
  let c1_i32 : BitVec 32 := 1#32
  let v45 : BitVec 32 := Scalar.subi v30 c1_i32
  let v46 : BitVec 32 := Scalar.select v44 v45 v30
  let c8_i32_28 : BitVec 32 := 8#32
  let v47 : BitVec 32 := Scalar.muli v46 c8_i32_28
  let c0_i32_37 : BitVec 32 := 0#32
  let v48 : BitVec 32 := Scalar.subi v29 v47
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c1_i32_35 : BitVec 32 := 1#32
  let v66 : BitVec 32 := Scalar.addi v65 c1_i32_35
  let v69 : BitVec 32 := Scalar.subi v66 c0_i32_37
  let c1_i32_38 : BitVec 32 := 1#32
  let v71 : BitVec 32 := Scalar.divsi v69 c1_i32_38
  let v72 : BitVec 32 := Scalar.muli v71 c1_i32_38
  let v73 : BitVec 32 := Scalar.addi c0_i32_37 v72
  let c1_i32_40 : BitVec 32 := 1#32
  let arg10 : BitVec 32 := Scf.iv v73 c1_i32_40 k0_t2
  let c128_i32_42 : BitVec 32 := 128#32
  let v77 : BitVec 32 := Scalar.muli arg10 c128_i32_42
  let v78 : BitVec 32 := Scalar.addi v47 v77
  let v86 : Index := Scalar.indexCast v78
  let c0_45 : Index := 0#32
  ![v86.toNat, 0]

def k0_chk1 (v27 : BitVec 32) (v29 : BitVec 32) : Prop :=
  ((k0_t1_loop v27 v29).OK) ∧
  (∀ k0_t1 : Fin (k0_t1_loop v27 v29).trips, ∀ a, (k0_off1 v27 v29 k0_t1) a + S128x4.size a ≤ S1152x4.size a) ∧
  ((k0_t2_loop v27 v29).OK) ∧
  (∀ k0_t2 : Fin (k0_t2_loop v27 v29).trips, ∀ a, (k0_off2 v27 v29 k0_t2) a + S128x4.size a ≤ S1152x4.size a)
theorem k0_t1_ok : ∀ (v27 : BitVec 32) (v29 : BitVec 32) (k0_hw1 : k0_chk1 v27 v29), (k0_t1_loop v27 v29).OK := fun v27 v29 k0_hw1 => k0_hw1.1
theorem k0_off1_inb : ∀ (v27 : BitVec 32) (v29 : BitVec 32) (k0_hw1 : k0_chk1 v27 v29) (k0_t1 : Fin (k0_t1_loop v27 v29).trips), ∀ a, (k0_off1 v27 v29 k0_t1) a + S128x4.size a ≤ S1152x4.size a := fun v27 v29 k0_hw1 k0_t1 => k0_hw1.2.1 k0_t1
theorem k0_t2_ok : ∀ (v27 : BitVec 32) (v29 : BitVec 32) (k0_hw1 : k0_chk1 v27 v29), (k0_t2_loop v27 v29).OK := fun v27 v29 k0_hw1 => k0_hw1.2.2.1
theorem k0_off2_inb : ∀ (v27 : BitVec 32) (v29 : BitVec 32) (k0_hw1 : k0_chk1 v27 v29) (k0_t2 : Fin (k0_t2_loop v27 v29).trips), ∀ a, (k0_off2 v27 v29 k0_t2) a + S128x4.size a ≤ S1152x4.size a := fun v27 v29 k0_hw1 k0_t2 => k0_hw1.2.2.2 k0_t2

def k0_cond2 (i : grid0.Coords) : BitVec 1 :=
  let arg0 : BitVec 32 := BitVec.ofNat 32 (i 0).val
  let c24_i32 : BitVec 32 := 24#32
  let v74 : BitVec 1 := Scalar.cmpi .eq arg0 c24_i32
  let v75 : BitVec 32 := Scalar.extui v74
  let c0_i32_41 : BitVec 32 := 0#32
  let v76 : BitVec 1 := Scalar.cmpi .ne v75 c0_i32_41
  v76

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1152x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

@[reducible] def k1_t1_loop (v8 : BitVec 32) (v10 : BitVec 32) : Scf.Loop 32 :=
  let c0_i32_23 : BitVec 32 := 0#32
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let v29 : BitVec 32 := Scalar.subi v10 v28
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32 : BitVec 32 := 128#32
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let v30 : BitVec 32 := Scalar.divsi v29 c128_i32
  let c1_i32_16 : BitVec 32 := 1#32
  let v45 : BitVec 32 := Scalar.subi v30 c1_i32_16
  let v46 : BitVec 32 := Scalar.select v44 v45 v30
  let c1_i32_17 : BitVec 32 := 1#32
  let v47 : BitVec 32 := Scalar.addi v46 c1_i32_17
  let v56 : BitVec 32 := Scalar.subi v47 c0_i32_23
  let c1_i32_24 : BitVec 32 := 1#32
  let v58 : BitVec 32 := Scalar.divsi v56 c1_i32_24
  let v59 : BitVec 32 := Scalar.muli v58 c1_i32_24
  let v60 : BitVec 32 := Scalar.addi c0_i32_23 v59
  let c1_i32_25 : BitVec 32 := 1#32
  ⟨c0_i32_23, v60, c1_i32_25⟩

def k1_off1 (v8 : BitVec 32) (v10 : BitVec 32) (k1_t1 : Fin (k1_t1_loop v8 v10).trips) : Fin 2 → Nat :=
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let c0_i32_23 : BitVec 32 := 0#32
  let c1_i32_25 : BitVec 32 := 1#32
  let arg13 : BitVec 32 := Scf.iv c0_i32_23 c1_i32_25 k1_t1
  let c128_i32_53 : BitVec 32 := 128#32
  let v144 : BitVec 32 := Scalar.muli arg13 c128_i32_53
  let v145 : BitVec 32 := Scalar.addi v28 v144
  let v154 : Index := Scalar.indexCast v145
  let c0_58 : Index := 0#32
  ![v154.toNat, 0]
@[reducible] def k1_t2_loop (v8 : BitVec 32) (v10 : BitVec 32) : Scf.Loop 32 :=
  let c0_i32_23 : BitVec 32 := 0#32
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let v29 : BitVec 32 := Scalar.subi v10 v28
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32 : BitVec 32 := 128#32
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let v30 : BitVec 32 := Scalar.divsi v29 c128_i32
  let c1_i32_16 : BitVec 32 := 1#32
  let v45 : BitVec 32 := Scalar.subi v30 c1_i32_16
  let v46 : BitVec 32 := Scalar.select v44 v45 v30
  let c1_i32_17 : BitVec 32 := 1#32
  let v47 : BitVec 32 := Scalar.addi v46 c1_i32_17
  let v56 : BitVec 32 := Scalar.subi v47 c0_i32_23
  let c1_i32_24 : BitVec 32 := 1#32
  let v58 : BitVec 32 := Scalar.divsi v56 c1_i32_24
  let v59 : BitVec 32 := Scalar.muli v58 c1_i32_24
  let v60 : BitVec 32 := Scalar.addi c0_i32_23 v59
  let v57 : BitVec 32 := Scalar.addi c0_i32_23 v56
  let c1_i32_26 : BitVec 32 := 1#32
  ⟨v60, v57, c1_i32_26⟩
def k1_off2 (v8 : BitVec 32) (v10 : BitVec 32) (k1_t2 : Fin (k1_t2_loop v8 v10).trips) : Fin 2 → Nat :=
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let c0_i32_23 : BitVec 32 := 0#32
  let v29 : BitVec 32 := Scalar.subi v10 v28
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32 : BitVec 32 := 128#32
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let v30 : BitVec 32 := Scalar.divsi v29 c128_i32
  let c1_i32_16 : BitVec 32 := 1#32
  let v45 : BitVec 32 := Scalar.subi v30 c1_i32_16
  let v46 : BitVec 32 := Scalar.select v44 v45 v30
  let c1_i32_17 : BitVec 32 := 1#32
  let v47 : BitVec 32 := Scalar.addi v46 c1_i32_17
  let v56 : BitVec 32 := Scalar.subi v47 c0_i32_23
  let c1_i32_24 : BitVec 32 := 1#32
  let v58 : BitVec 32 := Scalar.divsi v56 c1_i32_24
  let v59 : BitVec 32 := Scalar.muli v58 c1_i32_24
  let v60 : BitVec 32 := Scalar.addi c0_i32_23 v59
  let c1_i32_26 : BitVec 32 := 1#32
  let arg13 : BitVec 32 := Scf.iv v60 c1_i32_26 k1_t2
  let c128_i32_53 : BitVec 32 := 128#32
  let v144 : BitVec 32 := Scalar.muli arg13 c128_i32_53
  let v145 : BitVec 32 := Scalar.addi v28 v144
  let v154 : Index := Scalar.indexCast v145
  let c0_58 : Index := 0#32
  ![v154.toNat, 0]
@[reducible] def k1_t3_loop (v8 : BitVec 32) (v10 : BitVec 32) : Scf.Loop 32 :=
  let c0_i32_48 : BitVec 32 := 0#32
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let v29 : BitVec 32 := Scalar.subi v10 v28
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32 : BitVec 32 := 128#32
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let v30 : BitVec 32 := Scalar.divsi v29 c128_i32
  let c1_i32_16 : BitVec 32 := 1#32
  let v45 : BitVec 32 := Scalar.subi v30 c1_i32_16
  let v46 : BitVec 32 := Scalar.select v44 v45 v30
  let c1_i32_17 : BitVec 32 := 1#32
  let v47 : BitVec 32 := Scalar.addi v46 c1_i32_17
  let v136 : BitVec 32 := Scalar.subi v47 c0_i32_48
  let c1_i32_49 : BitVec 32 := 1#32
  let v138 : BitVec 32 := Scalar.divsi v136 c1_i32_49
  let v139 : BitVec 32 := Scalar.muli v138 c1_i32_49
  let v140 : BitVec 32 := Scalar.addi c0_i32_48 v139
  let c1_i32_50 : BitVec 32 := 1#32
  ⟨c0_i32_48, v140, c1_i32_50⟩
def k1_off3 (v8 : BitVec 32) (v10 : BitVec 32) (k1_t3 : Fin (k1_t3_loop v8 v10).trips) : Fin 2 → Nat :=
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let c0_i32_48 : BitVec 32 := 0#32
  let c1_i32_50 : BitVec 32 := 1#32
  let arg13 : BitVec 32 := Scf.iv c0_i32_48 c1_i32_50 k1_t3
  let c128_i32_53 : BitVec 32 := 128#32
  let v144 : BitVec 32 := Scalar.muli arg13 c128_i32_53
  let v145 : BitVec 32 := Scalar.addi v28 v144
  let v153 : Index := Scalar.indexCast v145
  let c0_56 : Index := 0#32
  ![v153.toNat, 0]
@[reducible] def k1_t4_loop (v8 : BitVec 32) (v10 : BitVec 32) : Scf.Loop 32 :=
  let c0_i32_48 : BitVec 32 := 0#32
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let v29 : BitVec 32 := Scalar.subi v10 v28
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32 : BitVec 32 := 128#32
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let v30 : BitVec 32 := Scalar.divsi v29 c128_i32
  let c1_i32_16 : BitVec 32 := 1#32
  let v45 : BitVec 32 := Scalar.subi v30 c1_i32_16
  let v46 : BitVec 32 := Scalar.select v44 v45 v30
  let c1_i32_17 : BitVec 32 := 1#32
  let v47 : BitVec 32 := Scalar.addi v46 c1_i32_17
  let v136 : BitVec 32 := Scalar.subi v47 c0_i32_48
  let c1_i32_49 : BitVec 32 := 1#32
  let v138 : BitVec 32 := Scalar.divsi v136 c1_i32_49
  let v139 : BitVec 32 := Scalar.muli v138 c1_i32_49
  let v140 : BitVec 32 := Scalar.addi c0_i32_48 v139
  let v137 : BitVec 32 := Scalar.addi c0_i32_48 v136
  let c1_i32_51 : BitVec 32 := 1#32
  ⟨v140, v137, c1_i32_51⟩
def k1_off4 (v8 : BitVec 32) (v10 : BitVec 32) (k1_t4 : Fin (k1_t4_loop v8 v10).trips) : Fin 2 → Nat :=
  let c0_i32_5 : BitVec 32 := 0#32
  let v12 : BitVec 1 := Scalar.cmpi .sgt v8 c0_i32_5
  let v13 : BitVec 32 := Scalar.extui v12
  let c0_i32_6 : BitVec 32 := 0#32
  let v14 : BitVec 1 := Scalar.cmpi .slt v8 c0_i32_6
  let v15 : BitVec 32 := Scalar.extui v14
  let v16 : BitVec 32 := Scalar.subi v13 v15
  let c8_i32 : BitVec 32 := 8#32
  let c0_i32_7 : BitVec 32 := 0#32
  let v17 : BitVec 1 := Scalar.cmpi .sgt c8_i32 c0_i32_7
  let v18 : BitVec 32 := Scalar.extui v17
  let c0_i32_8 : BitVec 32 := 0#32
  let v19 : BitVec 1 := Scalar.cmpi .slt c8_i32 c0_i32_8
  let v20 : BitVec 32 := Scalar.extui v19
  let v21 : BitVec 32 := Scalar.subi v18 v20
  let v22 : BitVec 1 := Scalar.cmpi .ne v16 v21
  let v23 : BitVec 32 := Scalar.remsi v8 c8_i32
  let c0_i32_9 : BitVec 32 := 0#32
  let v24 : BitVec 1 := Scalar.cmpi .ne v23 c0_i32_9
  let v25 : BitVec 1 := Scalar.andi v22 v24
  let v11 : BitVec 32 := Scalar.divsi v8 c8_i32
  let c1_i32 : BitVec 32 := 1#32
  let v26 : BitVec 32 := Scalar.subi v11 c1_i32
  let v27 : BitVec 32 := Scalar.select v25 v26 v11
  let c8_i32_10 : BitVec 32 := 8#32
  let v28 : BitVec 32 := Scalar.muli v27 c8_i32_10
  let c0_i32_48 : BitVec 32 := 0#32
  let v29 : BitVec 32 := Scalar.subi v10 v28
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32 : BitVec 32 := 128#32
  let c0_i32_13 : BitVec 32 := 0#32
  let v36 : BitVec 1 := Scalar.cmpi .sgt c128_i32 c0_i32_13
  let v37 : BitVec 32 := Scalar.extui v36
  let c0_i32_14 : BitVec 32 := 0#32
  let v38 : BitVec 1 := Scalar.cmpi .slt c128_i32 c0_i32_14
  let v39 : BitVec 32 := Scalar.extui v38
  let v40 : BitVec 32 := Scalar.subi v37 v39
  let v41 : BitVec 1 := Scalar.cmpi .ne v35 v40
  let v42 : BitVec 32 := Scalar.remsi v29 c128_i32
  let c0_i32_15 : BitVec 32 := 0#32
  let v43 : BitVec 1 := Scalar.cmpi .ne v42 c0_i32_15
  let v44 : BitVec 1 := Scalar.andi v41 v43
  let v30 : BitVec 32 := Scalar.divsi v29 c128_i32
  let c1_i32_16 : BitVec 32 := 1#32
  let v45 : BitVec 32 := Scalar.subi v30 c1_i32_16
  let v46 : BitVec 32 := Scalar.select v44 v45 v30
  let c1_i32_17 : BitVec 32 := 1#32
  let v47 : BitVec 32 := Scalar.addi v46 c1_i32_17
  let v136 : BitVec 32 := Scalar.subi v47 c0_i32_48
  let c1_i32_49 : BitVec 32 := 1#32
  let v138 : BitVec 32 := Scalar.divsi v136 c1_i32_49
  let v139 : BitVec 32 := Scalar.muli v138 c1_i32_49
  let v140 : BitVec 32 := Scalar.addi c0_i32_48 v139
  let c1_i32_51 : BitVec 32 := 1#32
  let arg13 : BitVec 32 := Scf.iv v140 c1_i32_51 k1_t4
  let c128_i32_53 : BitVec 32 := 128#32
  let v144 : BitVec 32 := Scalar.muli arg13 c128_i32_53
  let v145 : BitVec 32 := Scalar.addi v28 v144
  let v153 : Index := Scalar.indexCast v145
  let c0_56 : Index := 0#32
  ![v153.toNat, 0]

def k1_chk1 (v8 : BitVec 32) (v10 : BitVec 32) : Prop :=
  ((k1_t1_loop v8 v10).OK) ∧
  (∀ k1_t1 : Fin (k1_t1_loop v8 v10).trips, ∀ a, (k1_off1 v8 v10 k1_t1) a + S128x4.size a ≤ S1152x4.size a) ∧
  ((k1_t2_loop v8 v10).OK) ∧
  (∀ k1_t2 : Fin (k1_t2_loop v8 v10).trips, ∀ a, (k1_off2 v8 v10 k1_t2) a + S128x4.size a ≤ S1152x4.size a) ∧
  ((k1_t3_loop v8 v10).OK) ∧
  (∀ k1_t3 : Fin (k1_t3_loop v8 v10).trips, ∀ a, (k1_off3 v8 v10 k1_t3) a + S128x512.size a ≤ S1152x512.size a) ∧
  ((k1_t4_loop v8 v10).OK) ∧
  (∀ k1_t4 : Fin (k1_t4_loop v8 v10).trips, ∀ a, (k1_off4 v8 v10 k1_t4) a + S128x512.size a ≤ S1152x512.size a)
theorem k1_t1_ok : ∀ (v8 : BitVec 32) (v10 : BitVec 32) (k1_hw1 : k1_chk1 v8 v10), (k1_t1_loop v8 v10).OK := fun v8 v10 k1_hw1 => k1_hw1.1
theorem k1_off1_inb : ∀ (v8 : BitVec 32) (v10 : BitVec 32) (k1_hw1 : k1_chk1 v8 v10) (k1_t1 : Fin (k1_t1_loop v8 v10).trips), ∀ a, (k1_off1 v8 v10 k1_t1) a + S128x4.size a ≤ S1152x4.size a := fun v8 v10 k1_hw1 k1_t1 => k1_hw1.2.1 k1_t1
theorem k1_t2_ok : ∀ (v8 : BitVec 32) (v10 : BitVec 32) (k1_hw1 : k1_chk1 v8 v10), (k1_t2_loop v8 v10).OK := fun v8 v10 k1_hw1 => k1_hw1.2.2.1
theorem k1_off2_inb : ∀ (v8 : BitVec 32) (v10 : BitVec 32) (k1_hw1 : k1_chk1 v8 v10) (k1_t2 : Fin (k1_t2_loop v8 v10).trips), ∀ a, (k1_off2 v8 v10 k1_t2) a + S128x4.size a ≤ S1152x4.size a := fun v8 v10 k1_hw1 k1_t2 => k1_hw1.2.2.2.1 k1_t2
theorem k1_t3_ok : ∀ (v8 : BitVec 32) (v10 : BitVec 32) (k1_hw1 : k1_chk1 v8 v10), (k1_t3_loop v8 v10).OK := fun v8 v10 k1_hw1 => k1_hw1.2.2.2.2.1
theorem k1_off3_inb : ∀ (v8 : BitVec 32) (v10 : BitVec 32) (k1_hw1 : k1_chk1 v8 v10) (k1_t3 : Fin (k1_t3_loop v8 v10).trips), ∀ a, (k1_off3 v8 v10 k1_t3) a + S128x512.size a ≤ S1152x512.size a := fun v8 v10 k1_hw1 k1_t3 => k1_hw1.2.2.2.2.2.1 k1_t3
theorem k1_t4_ok : ∀ (v8 : BitVec 32) (v10 : BitVec 32) (k1_hw1 : k1_chk1 v8 v10), (k1_t4_loop v8 v10).OK := fun v8 v10 k1_hw1 => k1_hw1.2.2.2.2.2.2.1
theorem k1_off4_inb : ∀ (v8 : BitVec 32) (v10 : BitVec 32) (k1_hw1 : k1_chk1 v8 v10) (k1_t4 : Fin (k1_t4_loop v8 v10).trips), ∀ a, (k1_off4 v8 v10 k1_t4) a + S128x512.size a ≤ S1152x512.size a := fun v8 v10 k1_hw1 k1_t4 => k1_hw1.2.2.2.2.2.2.2 k1_t4

def k1_cond2 (i : grid1.Coords) : BitVec 1 :=
  let arg0 : BitVec 32 := BitVec.ofNat 32 (i 0).val
  let c24_i32 : BitVec 32 := 24#32
  let v141 : BitVec 1 := Scalar.cmpi .eq arg0 c24_i32
  let v142 : BitVec 32 := Scalar.extui v141
  let c0_i32_52 : BitVec 32 := 0#32
  let v143 : BitVec 1 := Scalar.cmpi .ne v142 c0_i32_52
  v143

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc1_transform_6 (i : grid1.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc1_transform_7 (i : grid1.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x4000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1152x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1152x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S100000x4x128 : Shape := ⟨3, ![100000, 4, 128]⟩
abbrev S4x128 : Shape := ⟨2, ![4, 128]⟩
abbrev S100000 : Shape := ⟨1, ![100000]⟩
abbrev S100000x4x4 : Shape := ⟨3, ![100000, 4, 4]⟩
abbrev S1x100000 : Shape := ⟨2, ![1, 100000]⟩
abbrev S1024 : Shape := ⟨1, ![1024]⟩
abbrev S1024x1 : Shape := ⟨2, ![1024, 1]⟩
abbrev S1024x100000 : Shape := ⟨2, ![1024, 100000]⟩
abbrev S1024x100000x1x1 : Shape := ⟨4, ![1024, 100000, 1, 1]⟩
abbrev S1x100000x4x4 : Shape := ⟨4, ![1, 100000, 4, 4]⟩
abbrev S_ : Shape := ⟨0, ![]⟩
abbrev S1024x100000x4x4 : Shape := ⟨4, ![1024, 100000, 4, 4]⟩
abbrev S1024x4x4 : Shape := ⟨3, ![1024, 4, 4]⟩
abbrev S1024x4 : Shape := ⟨2, ![1024, 4]⟩
abbrev S100000x1 : Shape := ⟨2, ![100000, 1]⟩
abbrev S100000x4 : Shape := ⟨2, ![100000, 4]⟩
abbrev S100000x1x4 : Shape := ⟨3, ![100000, 1, 4]⟩
abbrev S1024x4x128 : Shape := ⟨3, ![1024, 4, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x4x128, .f32⟩
  | .hbm, ⟨1, _⟩ => ⟨S4x128, .f32⟩
  | .hbm, ⟨2, _⟩ => ⟨S100000, .i32⟩
  | .hbm, ⟨3, _⟩ => ⟨S100000x4x4, .f32⟩
  | .hbm, ⟨4, _⟩ => ⟨S1x100000, .i32⟩
  | .hbm, ⟨5, _⟩ => ⟨S1024, .i32⟩
  | .hbm, ⟨6, _⟩ => ⟨S1024x1, .i32⟩
  | .hbm, ⟨7, _⟩ => ⟨S1024x100000, .i32⟩
  | .hbm, ⟨8, _⟩ => ⟨S1024x100000, .i32⟩
  | .hbm, ⟨9, _⟩ => ⟨S1024x100000, .i1⟩
  | .hbm, ⟨10, _⟩ => ⟨S1024x100000x1x1, .i1⟩
  | .hbm, ⟨11, _⟩ => ⟨S1x100000x4x4, .f32⟩
  | .hbm, ⟨12, _⟩ => ⟨S_, .f32⟩
  | .hbm, ⟨13, _⟩ => ⟨S_, .f32⟩
  | .hbm, ⟨14, _⟩ => ⟨S1024x100000x4x4, .i1⟩
  | .hbm, ⟨15, _⟩ => ⟨S1024x100000x4x4, .f32⟩
  | .hbm, ⟨16, _⟩ => ⟨S1024x100000x4x4, .f32⟩
  | .hbm, ⟨17, _⟩ => ⟨S1024x100000x4x4, .f32⟩
  | .hbm, ⟨18, _⟩ => ⟨S_, .f32⟩
  | .hbm, ⟨19, _⟩ => ⟨S1024x4x4, .f32⟩
  | .hbm, ⟨20, _⟩ => ⟨S_, .f32⟩
  | .hbm, ⟨21, _⟩ => ⟨S1024x4, .f32⟩
  | .hbm, ⟨22, _⟩ => ⟨S1024x4, .f32⟩
  | .hbm, ⟨23, _⟩ => ⟨S_, .f32⟩
  | .hbm, ⟨24, _⟩ => ⟨S1024x4, .f32⟩
  | .hbm, ⟨25, _⟩ => ⟨S1024x4, .i1⟩
  | .hbm, ⟨26, _⟩ => ⟨S_, .f32⟩
  | .hbm, ⟨27, _⟩ => ⟨S_, .f32⟩
  | .hbm, ⟨28, _⟩ => ⟨S1024x4, .f32⟩
  | .hbm, ⟨29, _⟩ => ⟨S1024x4, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x4, .f32⟩
  | .hbm, ⟨39, _⟩ => ⟨S100000x1x4, .f32⟩
  | .hbm, ⟨40, _⟩ => ⟨S100000x4x4, .f32⟩
  | .hbm, ⟨41, _⟩ => ⟨S100000x4x4, .f32⟩
  | .hbm, ⟨42, _⟩ => ⟨S100000x4x4, .f32⟩
  | .hbm, ⟨43, _⟩ => ⟨S_, .f32⟩
  | .hbm, ⟨44, _⟩ => ⟨S100000x4, .f32⟩
  | .hbm, ⟨45, _⟩ => ⟨S_, .f32⟩
  | .hbm, ⟨46, _⟩ => ⟨S1024x4, .f32⟩
  | .hbm, ⟨47, _⟩ => ⟨S100000x1, .i32⟩
  | .hbm, ⟨48, _⟩ => ⟨S1024x4, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x4, .f32⟩
  | .hbm, ⟨58, _⟩ => ⟨S100000x1x4, .f32⟩
  | .hbm, ⟨59, _⟩ => ⟨S_, .f32⟩
  | .hbm, ⟨60, _⟩ => ⟨S100000x1x4, .f32⟩
  | .hbm, ⟨61, _⟩ => ⟨S100000x1x4, .f32⟩
  | .hbm, ⟨62, _⟩ => ⟨S100000x4x4, .f32⟩
  | .hbm, ⟨63, _⟩ => ⟨S100000x4x4, .f32⟩
  | .hbm, ⟨64, _⟩ => ⟨S100000x4x128, .f32⟩
  | .hbm, ⟨65, _⟩ => ⟨S_, .f32⟩
  | .hbm, ⟨66, _⟩ => ⟨S1024x4x128, .f32⟩
  | .hbm, ⟨67, _⟩ => ⟨S100000x1, .i32⟩
  | .hbm, ⟨68, _⟩ => ⟨S1024x4x128, .f32⟩
  | .hbm, ⟨69, _⟩ => ⟨S1024, .i32⟩
  | _, _ => ⟨S100000x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Proof.Words.lean ====
module

public import proofs.«01_k».proof.Proof.Gen.KernelIdeal

/-! The words each block's window of components is computed from: the window's first row, the number of its chunks
of 128 rows, and where each chunk starts, for component numbers below 1024. -/

@[expose] public section

namespace Cert.KernelIdeal.Words

open Idealize.ShloMosaic Idealize.ShloMosaic.TcCoe
open Cert.KernelIdeal

/-- Division of the word `d` by `m`, rounded down, as the kernels compute it. -/
def floorW (d m : BitVec 32) : BitVec 32 :=
  Scalar.select (Scalar.andi
      (Scalar.cmpi .ne (Scalar.subi (Scalar.extui (Scalar.cmpi .sgt d 0#32) : BitVec 32) (Scalar.extui (Scalar.cmpi .slt d 0#32)))
        (Scalar.subi (Scalar.extui (Scalar.cmpi .sgt m 0#32) : BitVec 32) (Scalar.extui (Scalar.cmpi .slt m 0#32))))
      (Scalar.cmpi .ne (Scalar.remsi d m) 0#32))
    (Scalar.subi (Scalar.divsi d m) 1#32) (Scalar.divsi d m)

/-- The first row of the window of components of a block whose first component is `a`: the largest multiple of
eight that is at most `a`. -/
def cbW (a : BitVec 32) : BitVec 32 := Scalar.muli (floorW a 8#32) 8#32

/-- The number of chunks, as a word. -/
def nW (a b : BitVec 32) : BitVec 32 := Scalar.addi (floorW (Scalar.subi b (cbW a)) 128#32) 1#32

/-- A loop over `n` chunks, and the loop over what is left of them after whole steps of one. -/
def mainLoop (n : BitVec 32) : Scf.Loop 32 := ⟨0#32, Scalar.addi 0#32 (Scalar.muli (Scalar.divsi (Scalar.subi n 0#32) 1#32) 1#32), 1#32⟩
def restLoop (n : BitVec 32) : Scf.Loop 32 :=
  ⟨Scalar.addi 0#32 (Scalar.muli (Scalar.divsi (Scalar.subi n 0#32) 1#32) 1#32), Scalar.addi 0#32 (Scalar.subi n 0#32), 1#32⟩

theorem divsi_one (n : BitVec 32) : Scalar.divsi n 1#32 = n := by
  have h : ¬ IntOp.SDivCorner n 1#32 := by simp [IntOp.SDivCorner]
  simp [Scalar.divsi, IntOp.divsi, h]

theorem mainLoop_eq (n : BitVec 32) : mainLoop n = ⟨0#32, n, 1#32⟩ := by
  simp [mainLoop, divsi_one, Scalar.addi, Scalar.muli, Scalar.subi, IntOp.addi, IntOp.muli, IntOp.subi]

theorem rest_trips (n : BitVec 32) : (restLoop n).trips = 0 := by
  simp [restLoop, divsi_one, Scalar.addi, Scalar.muli, Scalar.subi, IntOp.addi, IntOp.muli, IntOp.subi, Scf.trips]

/-- The first row of the window, and the number of its chunks, in numbers. -/
def cbN (A : ℕ) : ℕ := A / 8 * 8
def nN (A B : ℕ) : ℕ := if B < cbN A then 0 else (B - cbN A) / 128 + 1

theorem cbW_table : ∀ n : Fin 1024, cbW (BitVec.ofNat 32 n.val) = BitVec.ofNat 32 (cbN n.val) := by decide +kernel

theorem floor_table : ∀ n : Fin 2048, (Scalar.addi (floorW (BitVec.ofInt 32 ((n.val : ℤ) - 1024)) 128#32) 1#32).toInt = ((n.val : ℤ) - 1024) / 128 + 1 := by
  decide +kernel

theorem cbW_ofNat {A : ℕ} (hA : A < 1024) : cbW (BitVec.ofNat 32 A) = BitVec.ofNat 32 (cbN A) := cbW_table ⟨A, hA⟩

theorem nW_ofNat {A B : ℕ} (hA : A < 1024) (hB : B < 1024) :
    (nW (BitVec.ofNat 32 A) (BitVec.ofNat 32 B)).toInt = ((B : ℤ) - cbN A) / 128 + 1 := by
  have hc : cbN A < 1024 := by unfold cbN; omega
  have e : Scalar.subi (BitVec.ofNat 32 B) (cbW (BitVec.ofNat 32 A)) = BitVec.ofInt 32 (((B + 1024 - cbN A : ℕ) : ℤ) - 1024) := by
    rw [cbW_ofNat hA]
    show BitVec.ofNat 32 B - BitVec.ofNat 32 (cbN A) = _
    apply BitVec.eq_of_toNat_eq
    rw [BitVec.toNat_sub, BitVec.toNat_ofNat, BitVec.toNat_ofNat, BitVec.toNat_ofInt]
    omega
  have h : (_ : ℤ) = (((B + 1024 - cbN A : ℕ) : ℤ) - 1024) / 128 + 1 := floor_table ⟨B + 1024 - cbN A, by omega⟩
  unfold nW
  rw [e]
  refine h.trans ?_
  omega

/-- The loop over a block's chunks, on words `A`, `B` below 1024: it means something, and its trips are `nN A B`. -/
theorem main_trips {A B : ℕ} (hA : A < 1024) (hB : B < 1024) :
    (mainLoop (nW (BitVec.ofNat 32 A) (BitVec.ofNat 32 B))).trips = nN A B := by
  have hc : cbN A < 1024 := by unfold cbN; omega
  have h := nW_ofNat hA hB
  rw [mainLoop_eq]
  show Scf.trips 0#32 _ 1#32 = _
  unfold Scf.trips nN
  rw [h]
  show ((((B : ℤ) - cbN A) / 128 + 1 - 0 + 1 - 1) / 1).toNat = _
  split <;> omega

theorem main_ok {A B : ℕ} (hA : A < 1024) (hB : B < 1024) : (mainLoop (nW (BitVec.ofNat 32 A) (BitVec.ofNat 32 B))).OK := by
  have hc : cbN A < 1024 := by unfold cbN; omega
  have ht := main_trips hA hB
  rw [mainLoop_eq] at ht ⊢
  refine ⟨(by decide : 0 < (1#32 : BitVec 32).toInt), ?_⟩
  show (0#32 : BitVec 32).toInt + (Scf.trips 0#32 _ 1#32 : ℕ) * (1#32 : BitVec 32).toInt < _
  have ht' : Scf.trips 0#32 (nW (BitVec.ofNat 32 A) (BitVec.ofNat 32 B)) 1#32 = nN A B := ht
  rw [ht']
  have : nN A B ≤ 9 := by unfold nN; split <;> omega
  show (0 : ℤ) + (nN A B : ℤ) * 1 < 2147483648
  omega

theorem rest_ok {A B : ℕ} (hA : A < 1024) (hB : B < 1024) : (restLoop (nW (BitVec.ofNat 32 A) (BitVec.ofNat 32 B))).OK := by
  have h := nW_ofNat hA hB
  refine ⟨(by decide : 0 < (1#32 : BitVec 32).toInt), ?_⟩
  have ht : Scf.trips (restLoop (nW (BitVec.ofNat 32 A) (BitVec.ofNat 32 B))).lb (restLoop (nW (BitVec.ofNat 32 A) (BitVec.ofNat 32 B))).ub (restLoop (nW (BitVec.ofNat 32 A) (BitVec.ofNat 32 B))).st = 0 := rest_trips _
  rw [ht]
  have e : (restLoop (nW (BitVec.ofNat 32 A) (BitVec.ofNat 32 B))).lb = nW (BitVec.ofNat 32 A) (BitVec.ofNat 32 B) := by
    simp [restLoop, divsi_one, Scalar.addi, Scalar.muli, Scalar.subi, IntOp.addi, IntOp.muli, IntOp.subi]
  rw [e, h]
  show _ + ((0 : ℕ) : ℤ) * _ < (2147483648 : ℤ)
  have hc : cbN A < 1024 := by unfold cbN; omega
  omega

/-- Where chunk `k` starts. -/
theorem start_ofNat {A : ℕ} (hA : A < 1024) (k : ℕ) (hk : k < 9) :
    (Scalar.indexCast (Scalar.addi (cbW (BitVec.ofNat 32 A)) (Scalar.muli (Scf.iv 0#32 1#32 k) 128#32))).toNat = cbN A + 128 * k := by
  have hc : cbN A < 1024 := by unfold cbN; omega
  rw [cbW_ofNat hA]
  show (BitVec.ofNat 32 (cbN A) + (0#32 + BitVec.ofNat 32 k * 1#32) * 128#32).toNat = _
  simp only [BitVec.toNat_add, BitVec.toNat_mul, BitVec.toNat_ofNat]
  omega

theorem nN_le {A B : ℕ} (hA : A < 1024) (hB : B < 1024) : nN A B ≤ 9 := by
  unfold nN cbN; split <;> omega

theorem start_le {A B k : ℕ} (hA : A < 1024) (hB : B < 1024) (hk : k < nN A B) : cbN A + 128 * k + 128 ≤ 1152 := by
  unfold nN at hk
  split at hk <;> unfold cbN at * <;> omega

/-- The program's own loops and offsets are these. -/
theorem loop01 (a b : BitVec 32) : k0_t1_loop a b = mainLoop (nW a b) := rfl
theorem loop02 (a b : BitVec 32) : k0_t2_loop a b = restLoop (nW a b) := rfl
theorem loop11 (a b : BitVec 32) : k1_t1_loop a b = mainLoop (nW a b) := rfl
theorem loop12 (a b : BitVec 32) : k1_t2_loop a b = restLoop (nW a b) := rfl
theorem loop13 (a b : BitVec 32) : k1_t3_loop a b = mainLoop (nW a b) := rfl
theorem loop14 (a b : BitVec 32) : k1_t4_loop a b = restLoop (nW a b) := rfl

/-- Every chunk's rows, in numbers. -/
theorem off01 {A B : ℕ} (hA : A < 1024) (hB : B < 1024) (k : Fin (k0_t1_loop (BitVec.ofNat 32 A) (BitVec.ofNat 32 B)).trips) :
    k0_off1 (BitVec.ofNat 32 A) (BitVec.ofNat 32 B) k = ![cbN A + 128 * k.val, 0] := by
  have hk : k.val < nN A B := lt_of_lt_of_eq k.isLt (main_trips hA hB)
  exact congrArg (fun n => ![n, 0]) (start_ofNat hA k.val (lt_of_lt_of_le hk (nN_le hA hB)))
theorem off11 {A B : ℕ} (hA : A < 1024) (hB : B < 1024) (k : Fin (k1_t1_loop (BitVec.ofNat 32 A) (BitVec.ofNat 32 B)).trips) :
    k1_off1 (BitVec.ofNat 32 A) (BitVec.ofNat 32 B) k = ![cbN A + 128 * k.val, 0] := by
  have hk : k.val < nN A B := lt_of_lt_of_eq k.isLt (main_trips hA hB)
  exact congrArg (fun n => ![n, 0]) (start_ofNat hA k.val (lt_of_lt_of_le hk (nN_le hA hB)))
theorem off13 {A B : ℕ} (hA : A < 1024) (hB : B < 1024) (k : Fin (k1_t3_loop (BitVec.ofNat 32 A) (BitVec.ofNat 32 B)).trips) :
    k1_off3 (BitVec.ofNat 32 A) (BitVec.ofNat 32 B) k = ![cbN A + 128 * k.val, 0] := by
  have hk : k.val < nN A B := lt_of_lt_of_eq k.isLt (main_trips hA hB)
  exact congrArg (fun n => ![n, 0]) (start_ofNat hA k.val (lt_of_lt_of_le hk (nN_le hA hB)))

/-- What the first kernel assumes of a block's first and last component holds of all below 1024. -/
theorem chk0 {A B : ℕ} (hA : A < 1024) (hB : B < 1024) : k0_chk1 (BitVec.ofNat 32 A) (BitVec.ofNat 32 B) := by
  refine ⟨main_ok hA hB, fun k a => ?_, rest_ok hA hB, fun k => ?_⟩
  · rw [off01 hA hB k]
    have hk : k.val < nN A B := lt_of_lt_of_eq k.isLt (main_trips hA hB)
    have := start_le hA hB hk
    match a with
    | ⟨0, _⟩ => exact this
    | ⟨1, _⟩ => exact le_rfl
  · exact absurd (lt_of_lt_of_eq k.isLt (rest_trips _)) (Nat.not_lt_zero _)

/-- What the second kernel assumes likewise. -/
theorem chk1 {A B : ℕ} (hA : A < 1024) (hB : B < 1024) : k1_chk1 (BitVec.ofNat 32 A) (BitVec.ofNat 32 B) := by
  refine ⟨main_ok hA hB, fun k a => ?_, rest_ok hA hB, fun k => ?_, main_ok hA hB, fun k a => ?_, rest_ok hA hB, fun k => ?_⟩
  · rw [off11 hA hB k]
    have hk : k.val < nN A B := lt_of_lt_of_eq k.isLt (main_trips hA hB)
    have := start_le hA hB hk
    match a with
    | ⟨0, _⟩ => exact this
    | ⟨1, _⟩ => exact le_rfl
  · exact absurd (lt_of_lt_of_eq k.isLt (rest_trips _)) (Nat.not_lt_zero _)
  · rw [off13 hA hB k]
    have hk : k.val < nN A B := lt_of_lt_of_eq k.isLt (main_trips hA hB)
    have := start_le hA hB hk
    match a with
    | ⟨0, _⟩ => exact this
    | ⟨1, _⟩ => exact le_rfl
  · exact absurd (lt_of_lt_of_eq k.isLt (rest_trips _)) (Nat.not_lt_zero _)

end Cert.KernelIdeal.Words
end
-- ==== Proof.Steps.lean ====
module

public import proofs.«01_k».proof.Proof.Gen.KernelIdeal.Loops
public import proofs.«01_k».proof.Proof.Gen.KernelIdeal.Points
public import proofs.«01_k».proof.Proof.Words
public import Idealize.ShloMosaic.Lib.VecWindow

/-! What one grid point of each of the two kernels computes, as plain functions of the blocks it reads: the
loops over the chunks of a block's components are recursions on the number of chunks done. -/

@[expose] public section

noncomputable section

namespace Cert.KernelIdeal.Steps

open Idealize.ShloMosaic Idealize.ShloMosaic.TcCoe
open Cert.KernelIdeal Cert.KernelIdeal.Gen Cert.KernelIdeal.Words

variable {F : FTy → Type} [FloatOps F]

/-- The component of a block's first node, and of its last. -/
def firstId (x : Vec F S1x1x4000 .i32) : BitVec 32 := extractAt ![0, 0] (k0_pay8 (F := F) x) inpos_S1x1_p0_0
def lastId (x : Vec F S1x1x4000 .i32) : BitVec 32 := extractAt ![0, 0] (k0_pay9 (F := F) x) inpos_S1x1_p0_0

/-- The sums of the first kernel after `k` chunks of one block, from `g`: chunk by chunk 128 rows of the table gain
the block's contribution. -/
def acc0 (v23 : FVec F S4000x4 .f32) (a b : BitVec 32) (hw : k0_chk1 a b) (ids : IVec S128x4000 32)
    (g : Vec F S1152x4 .f32) : ℕ → Vec F S1152x4 .f32
  | 0 => g
  | k + 1 =>
    if h : k < (k0_t1_loop a b).trips then
      VecWindow.put (acc0 v23 a b hw ids g k) (k0_off1 a b ⟨k, h⟩) S128x4.size
        (k0_pay1 v23 a b (cbW a) ids 0#32 ⟨k, h⟩
          (VecWindow.window (acc0 v23 a b hw ids g k) (k0_off1 a b ⟨k, h⟩) S128x4.size (k0_off1_inb a b hw ⟨k, h⟩)))
    else acc0 v23 a b hw ids g k

/-- The table of sums after one block of the first kernel. -/
def den0 (x1 : Vec F S1x1x4000 .i32) (x2 x3 x4 x5 : Vec F S4000x1x1x128 .f32) (x6 : Vec F S512x16 .f32)
    (g : Vec F S1152x4 .f32) : Vec F S1152x4 .f32 :=
  if hw : k0_chk1 (firstId x1) (lastId x1) then
    acc0 (k0_pay6 x2 x3 x4 x5 x6) (firstId x1) (lastId x1) hw (k0_pay10 (k0_pay7 (F := F) x1)) g
      (k0_t1_loop (firstId x1) (lastId x1)).trips
  else g

/-- The reciprocals of a block's nodes gathered from the table `inv` after `k` chunks. -/
def acc1 (inv : Vec F S1152x4 .f32) (a b : BitVec 32) (hw : k1_chk1 a b) (ids : Vec F S4000x1 .i32) : ℕ → Vec F S4000x4 .f32
  | 0 => k1_pay11
  | k + 1 =>
    if h : k < (k1_t1_loop a b).trips then
      k1_pay12 a b (cbW a) ids ⟨k, h⟩ (acc1 inv a b hw ids k)
        (VecWindow.window inv (k1_off1 a b ⟨k, h⟩) S128x4.size (k1_off1_inb a b hw ⟨k, h⟩))
    else acc1 inv a b hw ids k

/-- The reciprocals of a block's nodes. -/
def inv1 (x1 : Vec F S1x1x4000 .i32) (x2 : Vec F S4000x1 .i32) (x4 : Vec F S1152x4 .f32) : Vec F S4000x4 .f32 :=
  if hw : k1_chk1 (firstId x1) (lastId x1) then
    acc1 x4 (firstId x1) (lastId x1) hw x2 (k1_t1_loop (firstId x1) (lastId x1)).trips
  else k1_pay11

/-- The weights of a block: what the second kernel writes to its first result. -/
def attn1 (x1 : Vec F S1x1x4000 .i32) (x2 : Vec F S4000x1 .i32) (x3 : Vec F S4000x16 .f32) (x4 : Vec F S1152x4 .f32) :
    Vec F S4000x16 .f32 :=
  k1_pay14 (k1_pay6 x3) (inv1 x1 x2 x4)

/-- The component features after `k` chunks of one block, from `g`. -/
def acc3 (w : FVec F S4000x16 .f32) (x5 x6 x7 x8 : Vec F S4000x1x1x128 .f32) (a b : BitVec 32) (hw : k1_chk1 a b)
    (ids : IVec S1x4000 32) (g : Vec F S1152x512 .f32) : ℕ → Vec F S1152x512 .f32
  | 0 => g
  | k + 1 =>
    if h : k < (k1_t3_loop a b).trips then
      VecWindow.put (acc3 w x5 x6 x7 x8 a b hw ids g k) (k1_off3 a b ⟨k, h⟩) S128x512.size
        (k1_pay3 ids a b (cbW a) w (k1_pay15 x5) (k1_pay16 x6) (k1_pay17 x7) (k1_pay18 x8)
          (k1_pay19 w (k1_pay15 x5) x6 x7 x8) (k1_pay20 w (k1_pay15 x5) x6 x7 x8) (k1_pay21 w (k1_pay15 x5) x6 x7 x8) (k1_pay22 w) ⟨k, h⟩
          (VecWindow.window (acc3 w x5 x6 x7 x8 a b hw ids g k) (k1_off3 a b ⟨k, h⟩) S128x512.size (k1_off3_inb a b hw ⟨k, h⟩)))
    else acc3 w x5 x6 x7 x8 a b hw ids g k

/-- The table of component features after one block of the second kernel. -/
def feat1 (x1 : Vec F S1x1x4000 .i32) (x2 : Vec F S4000x1 .i32) (x3 : Vec F S4000x16 .f32) (x4 : Vec F S1152x4 .f32)
    (x5 x6 x7 x8 : Vec F S4000x1x1x128 .f32) (g : Vec F S1152x512 .f32) : Vec F S1152x512 .f32 :=
  if hw : k1_chk1 (firstId x1) (lastId x1) then
    acc3 (attn1 x1 x2 x3 x4) x5 x6 x7 x8 (firstId x1) (lastId x1) hw (k1_pay7 (F := F) x1) g
      (k1_t3_loop (firstId x1) (lastId x1)).trips
  else g

/-- Whether a grid point is the first one, in the words the kernels test. -/
def isFirst0 (i : grid0.Coords) : BitVec 1 := Scalar.cmpi .ne (Scalar.extui (Scalar.cmpi .eq (BitVec.ofNat 32 (i 0).val) 0#32) : BitVec 32) 0#32
def isFirst1 (i : grid1.Coords) : BitVec 1 := Scalar.cmpi .ne (Scalar.extui (Scalar.cmpi .eq (BitVec.ofNat 32 (i 0).val) 0#32) : BitVec 32) 0#32

end Cert.KernelIdeal.Steps
end
-- ==== Proof.Body0.lean ====
module

public import proofs.«01_k».proof.Proof.Steps
public import Idealize.ShloMosaic.Lib.Pipeline.Frame

/-! One grid point of the first kernel, run over memrefs of any slots. -/

@[expose] public section

set_option maxHeartbeats 1000000

noncomputable section

namespace Cert.KernelIdeal.Body0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Steps Cert.KernelIdeal.Words

variable {F : FTy → Type} [FloatOps F]

local notation "𝕄" => MT nD τ sig Unit (Elt F) ℕ (UR sig nD τ) ℕ

/-- A memref's buffer held at contents that read `X` is the memref owned at `X`. -/
theorem owns_of (c : Dev nD) {sp : Space} {S : Shape} {e : EltTy} (M : Memref sig .tc sp S e) (f : Buf (Elt F) (M.view.loc (c : Thread nD τ)))
    (X : S.Idx → Elt F e) (h : M.view.read (Elt F) f = X) :
    (M.view.loc (c : Thread nD τ) ↦[M.view.set]{fullShare} f : sProp 𝕄)
      ⊢ iprop(∃ f', ⌜M.view.read (Elt F) f' = X⌝ ∗ (M.view.loc (c : Thread nD τ) ↦[M.view.set]{fullShare} f')) := by
  iintro H
  iexists f
  isplitl []
  · ipureintro; exact h
  · iexact H

variable (c : Dev nD) (i : grid0.Coords)
  (M1 : Memref sig .tc .vmem S1x1x4000 .i32) (h1 : M1.IsWhole) (M2 : Memref sig .tc .vmem S4000x1x1x128 .f32) (h2 : M2.IsWhole)
  (M3 : Memref sig .tc .vmem S4000x1x1x128 .f32) (h3 : M3.IsWhole) (M4 : Memref sig .tc .vmem S4000x1x1x128 .f32) (h4 : M4.IsWhole)
  (M5 : Memref sig .tc .vmem S4000x1x1x128 .f32) (h5 : M5.IsWhole) (M6 : Memref sig .tc .vmem S512x16 .f32) (h6 : M6.IsWhole)
  (M7 : Memref sig .tc .vmem S4000x16 .f32) (h7 : M7.IsWhole) (M8 : Memref sig .tc .vmem S1152x4 .f32) (h8 : M8.IsWhole)
  (M9 : Memref sig .tc .vmem S1152x4 .f32) (h9 : M9.IsWhole)

/-- One chunk of the first kernel's loop is one store of 128 rows. -/
theorem trip_eq (v23 : FVec F S4000x4 .f32) (a b : BitVec 32) (hw : k0_chk1 a b) (v47 : BitVec 32) (v68 : IVec S128x4000 32) (c0 : BitVec 32)
    (k : Fin (k0_t1_loop a b).trips) (f : BufTy.Contents (Elt F) M9.view.ty) :
    tripL_k0_t1 (F := F) Variants.none c none i M1 h1 M2 h2 M3 h3 M4 h4 M5 h5 M6 h6 M7 h7 M8 h8 M9 h9 v23 a b hw v47 v68 c0 k f
      = [⟨Rect.unit (s := S1152x4) (k0_off1 a b k) S128x4.size (k0_off1_inb a b hw k), k0_pay1 v23 a b v47 v68 c0 k
          (M9.view.readAt (Elt F) (Rect.unit (s := S1152x4) (k0_off1 a b k) S128x4.size (k0_off1_inb a b hw k)).toLoadRect f)⟩] := by
  unfold tripL_k0_t1 trip_k0_t1
  rfl

/-- The table after `k` chunks, read through its memref, is the recursion `acc0`. -/
theorem loop_read (v23 : FVec F S4000x4 .f32) (a b : BitVec 32) (hw : k0_chk1 a b) (v68 : IVec S128x4000 32)
    (G : BufTy.Contents (Elt F) M9.view.ty) (k : ℕ) (hk : k ≤ (k0_t1_loop a b).trips) :
    M9.view.read (Elt F) (M9.view.writes (Elt F) G (pb_k0_t1 (F := F) Variants.none c none i M1 h1 M2 h2 M3 h3 M4 h4 M5 h5 M6 h6 M7 h7 M8 h8 M9 h9 v23 a b hw (cbW a) v68 0#32 G k))
      = acc0 v23 a b hw v68 (M9.view.read (Elt F) G) k := by
  induction k with
  | zero => rfl
  | succ k ih =>
    have hlt : k < (k0_t1_loop a b).trips := hk
    have ih := ih (Nat.le_of_succ_le hk)
    rw [show k + 1 = (⟨k, hlt⟩ : Fin (k0_t1_loop a b).trips).val + 1 from rfl, pb_k0_t1_succ, trip_eq]
    rw [List.singleton_append, View.read_writes_cons_put _ _ _ _ _ rfl, View.readAt_unit _ _ _ rfl (k0_off1_inb a b hw ⟨k, hlt⟩), ih]
    rw [acc0.eq_2, dif_pos hlt]

/-- After a block's loops the table's memref reads `den0` of the blocks read. -/
theorem table_read
    (a b : BitVec 32) (hw hw' : k0_chk1 a b) (v23 : FVec F S4000x4 .f32) (v68 : IVec S128x4000 32) (v69 c1 : BitVec 32)
    (G G' : BufTy.Contents (Elt F) M9.view.ty) :
    M9.view.read (Elt F) (M9.view.writes (Elt F) G
      (pb_k0_t2 (F := F) Variants.none c none i M1 h1 M2 h2 M3 h3 M4 h4 M5 h5 M6 h6 M7 h7 M8 h8 M9 h9 v23 a b hw (cbW a) v68 0#32 v69 c1 G'
          (Scf.trips (k0_t2_loop a b).lb (k0_t2_loop a b).ub (k0_t2_loop a b).st)
        ++ pb_k0_t1 (F := F) Variants.none c none i M1 h1 M2 h2 M3 h3 M4 h4 M5 h5 M6 h6 M7 h7 M8 h8 M9 h9 v23 a b hw (cbW a) v68 0#32 G
          (Scf.trips (k0_t1_loop a b).lb (k0_t1_loop a b).ub (k0_t1_loop a b).st)))
      = acc0 v23 a b hw' v68 (M9.view.read (Elt F) G) (k0_t1_loop a b).trips := by
  rw [show Scf.trips (k0_t2_loop a b).lb (k0_t2_loop a b).ub (k0_t2_loop a b).st = 0 from rest_trips _, pb_k0_t2.eq_1, List.nil_append]
  exact loop_read c i M1 h1 M2 h2 M3 h3 M4 h4 M5 h5 M6 h6 M7 h7 M8 h8 M9 h9 v23 a b hw v68 G _ le_rfl

/-- The same, of the blocks read. -/
theorem table_den (x1 : Vec F S1x1x4000 .i32) (x2 x3 x4 x5 : Vec F S4000x1x1x128 .f32) (x6 : Vec F S512x16 .f32)
    (hw : k0_chk1 (firstId x1) (lastId x1)) (v69 c1 : BitVec 32) (G G' : BufTy.Contents (Elt F) M9.view.ty) :
    M9.view.read (Elt F) (M9.view.writes (Elt F) G
      (pb_k0_t2 (F := F) Variants.none c none i M1 h1 M2 h2 M3 h3 M4 h4 M5 h5 M6 h6 M7 h7 M8 h8 M9 h9 (k0_pay6 x2 x3 x4 x5 x6) (firstId x1) (lastId x1) hw
          (cbW (firstId x1)) (k0_pay10 (k0_pay7 (F := F) x1)) 0#32 v69 c1 G'
          (Scf.trips (k0_t2_loop (firstId x1) (lastId x1)).lb (k0_t2_loop (firstId x1) (lastId x1)).ub (k0_t2_loop (firstId x1) (lastId x1)).st)
        ++ pb_k0_t1 (F := F) Variants.none c none i M1 h1 M2 h2 M3 h3 M4 h4 M5 h5 M6 h6 M7 h7 M8 h8 M9 h9 (k0_pay6 x2 x3 x4 x5 x6) (firstId x1) (lastId x1) hw
          (cbW (firstId x1)) (k0_pay10 (k0_pay7 (F := F) x1)) 0#32 G
          (Scf.trips (k0_t1_loop (firstId x1) (lastId x1)).lb (k0_t1_loop (firstId x1) (lastId x1)).ub (k0_t1_loop (firstId x1) (lastId x1)).st)))
      = den0 x1 x2 x3 x4 x5 x6 (M9.view.read (Elt F) G) := by
  unfold den0
  rw [dif_pos hw]
  exact table_read c i M1 h1 M2 h2 M3 h3 M4 h4 M5 h5 M6 h6 M7 h7 M8 h8 M9 h9 _ _ hw hw _ _ v69 c1 G G'

/-- One grid point: the blocks are read, the exponentials go out, the table gains the block's sums, and at the last
point the table's reciprocals go out. -/
theorem body (x1 : Vec F S1x1x4000 .i32) (x2 x3 x4 x5 : Vec F S4000x1x1x128 .f32) (x6 : Vec F S512x16 .f32) (x7 : Vec F S4000x16 .f32)
    (x8 g : Vec F S1152x4 .f32) (hchk : k0_chk1 (firstId x1) (lastId x1)) (Q : PUnit → sProp 𝕄) :
    iprop(owns (c : Thread nD τ) M1 fullShare x1 ∗ owns (c : Thread nD τ) M2 fullShare x2 ∗ owns (c : Thread nD τ) M3 fullShare x3
      ∗ owns (c : Thread nD τ) M4 fullShare x4 ∗ owns (c : Thread nD τ) M5 fullShare x5 ∗ owns (c : Thread nD τ) M6 fullShare x6
      ∗ owns (c : Thread nD τ) M7 fullShare x7 ∗ owns (c : Thread nD τ) M8 fullShare x8 ∗ owns (c : Thread nD τ) M9 fullShare g
      ∗ (iprop(owns (c : Thread nD τ) M1 fullShare x1 ∗ owns (c : Thread nD τ) M2 fullShare x2 ∗ owns (c : Thread nD τ) M3 fullShare x3
          ∗ owns (c : Thread nD τ) M4 fullShare x4 ∗ owns (c : Thread nD τ) M5 fullShare x5 ∗ owns (c : Thread nD τ) M6 fullShare x6
          ∗ owns (c : Thread nD τ) M7 fullShare (k0_pay5 x2 x3 x4 x5 x6)
          ∗ owns (c : Thread nD τ) M8 fullShare (if k0_cond2 i = 1#1 then k0_pay3 (den0 x1 x2 x3 x4 x5 x6 (if isFirst0 i = 1#1 then k0_pay4 else g)) else x8)
          ∗ owns (c : Thread nD τ) M9 fullShare (den0 x1 x2 x3 x4 x5 x6 (if isFirst0 i = 1#1 then k0_pay4 else g))) -∗ Q ⟨⟩))
    ⊢ wp frame (wpE (defs₀ (F := F)) Variants.none c none) Set.univ (cc0__ex_denom_kernel i M1 h1 M2 h2 M3 h3 M4 h4 M5 h5 M6 h6 M7 h7 M8 h8 M9 h9) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  subst e1 e2 e3 e4 e5 e6 e7 e8 e9
  have e1 := View.readAt_full M1.view f1 inb_S1x1x4000_S1x1x4000_0_0_0
  have e2 := View.readAt_full M2.view f2 inb_S4000x1x1x128_S4000x1x1x128_0_0_0_0
  have e3 := View.readAt_full M3.view f3 inb_S4000x1x1x128_S4000x1x1x128_0_0_0_0
  have e4 := View.readAt_full M4.view f4 inb_S4000x1x1x128_S4000x1x1x128_0_0_0_0
  have e5 := View.readAt_full M5.view f5 inb_S4000x1x1x128_S4000x1x1x128_0_0_0_0
  have e6 := View.readAt_full M6.view f6 inb_S512x16_S512x16_0_0
  have hchk' : k0_chk1 (extractAt ![0, 0] (k0_pay8 (M1.view.read (Elt F) f1)) inpos_S1x1_p0_0) (extractAt ![0, 0] (k0_pay9 (M1.view.read (Elt F) f1)) inpos_S1x1_p0_0) := hchk
  have hG : M9.view.read (Elt F) (if _hc : isFirst0 i = 1#1 then M9.view.writes (Elt F) f9 [⟨Rect.unit ![0, 0] S1152x4.size inb_S1152x4_S1152x4_0_0, k0_pay4⟩] else f9)
      = if isFirst0 i = 1#1 then k0_pay4 else M9.view.read (Elt F) f9 := by
    split
    · exact View.read_writes_full M9.view _ _ _ _
    · rfl
  have hden := fun v69 c1 G' => (table_den c i M1 h1 M2 h2 M3 h3 M4 h4 M5 h5 M6 h6 M7 h7 M8 h8 M9 h9 (M1.view.read (Elt F) f1) (M2.view.read (Elt F) f2)
      (M3.view.read (Elt F) f3) (M4.view.read (Elt F) f4) (M5.view.read (Elt F) f5) (M6.view.read (Elt F) f6) hchk v69 c1
      (if _hc : isFirst0 i = 1#1 then M9.view.writes (Elt F) f9 [⟨Rect.unit ![0, 0] S1152x4.size inb_S1152x4_S1152x4_0_0, k0_pay4⟩] else f9) G').trans (congrArg _ hG)
  rw [cc0__ex_denom_kernel_eq_skeleton]
  unfold cc0__ex_denom_kernel_skel
  rw [k0_part1_eq_skeleton]
  unfold k0_part1_skel
  sl_exec
  sl_step
  iapply Hk
  isplitl [H1]; · iapply (owns_of c M1 _ _ rfl); iexact H1
  isplitl [H2]; · iapply (owns_of c M2 _ _ rfl); iexact H2
  isplitl [H3]; · iapply (owns_of c M3 _ _ rfl); iexact H3
  isplitl [H4]; · iapply (owns_of c M4 _ _ rfl); iexact H4
  isplitl [H5]; · iapply (owns_of c M5 _ _ rfl); iexact H5
  isplitl [H6]; · iapply (owns_of c M6 _ _ rfl); iexact H6
  isplitl [H7]
  · iapply (owns_of c M7 _ _ ?_)
    rotate_left
    · iexact H7
    · unfold body.sl.H7_1
      exact View.read_writes_full M7.view _ _ _ _
  isplitl [H8]
  · iapply (owns_of c M8 _ _ ?_)
    rotate_left
    · iexact H8
    · split
      · rw [View.read_writes_full]
        refine congrArg k0_pay3 ?_
        unfold body.sl.v77
        exact (View.readAt_full M9.view _ _).trans (hden _ _ _)
      · rfl
  iapply (owns_of c M9 _ _ ?_)
  rotate_left
  · iexact H9
  · refine (table_den c i M1 h1 M2 h2 M3 h3 M4 h4 M5 h5 M6 h6 M7 h7 M8 h8 M9 h9 (M1.view.read (Elt F) f1) (M2.view.read (Elt F) f2)
      (M3.view.read (Elt F) f3) (M4.view.read (Elt F) f4) (M5.view.read (Elt F) f5) (M6.view.read (Elt F) f6) hchk _ _
      (if _hc : isFirst0 i = 1#1 then M9.view.writes (Elt F) f9 [⟨Rect.unit ![0, 0] S1152x4.size inb_S1152x4_S1152x4_0_0, k0_pay4⟩] else f9) _).trans (congrArg _ hG)

end Cert.KernelIdeal.Body0
end
-- ==== Proof.Region0.lean ====
module

public import proofs.«01_k».proof.Proof.Body0
public import proofs.«01_k».proof.Proof.Gen.KernelIdeal.Regions
public import Idealize.ShloMosaic.Lib.Pipeline.RegionsLoop

/-! The first kernel over its whole grid: the contents of every block at every grid point, from any contents of the
arrays at entry, and the grid as one segment of the program. -/

@[expose] public section

set_option maxHeartbeats 1000000

noncomputable section

namespace Cert.KernelIdeal.Region0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.KernelIdeal.Steps

variable {F : FTy → Type} [FloatOps F]

local notation "𝕄" => MT nD τ sig Unit (Elt F) ℕ (UR sig nD τ) ℕ

variable (V : Dev nD → Valuation τ sig (Elt F))

/-! ## The blocks -/

/-- The component numbers of block `t`, the four layers of its features, and the query matrix. -/
def ids (c : Dev nD) (t : Fin cfg0.N) : Vec F S1x1x4000 .i32 := ((cfg0.win 0).blk t).view.read (Elt F) (V c main_v1)
def fA (c : Dev nD) (t : Fin cfg0.N) : Vec F S4000x1x1x128 .f32 := ((cfg0.win 1).blk t).view.read (Elt F) (V c main_v0)
def fB (c : Dev nD) (t : Fin cfg0.N) : Vec F S4000x1x1x128 .f32 := ((cfg0.win 2).blk t).view.read (Elt F) (V c main_v0)
def fC (c : Dev nD) (t : Fin cfg0.N) : Vec F S4000x1x1x128 .f32 := ((cfg0.win 3).blk t).view.read (Elt F) (V c main_v0)
def fD (c : Dev nD) (t : Fin cfg0.N) : Vec F S4000x1x1x128 .f32 := ((cfg0.win 4).blk t).view.read (Elt F) (V c main_v0)
def qm (c : Dev nD) (t : Fin cfg0.N) : Vec F S512x16 .f32 := ((cfg0.win 5).blk t).view.read (Elt F) (V c main_v21)

/-- The table of sums before grid point `n`. -/
def den (c : Dev nD) : ℕ → Vec F S1152x4 .f32
  | 0 => k0_pay4
  | n + 1 => if h : n < cfg0.N then
      den0 (ids V c ⟨n, h⟩) (fA V c ⟨n, h⟩) (fB V c ⟨n, h⟩) (fC V c ⟨n, h⟩) (fD V c ⟨n, h⟩) (qm V c ⟨n, h⟩) (den c n)
    else den c n

/-- One more grid point. -/
theorem den_succ (c : Dev nD) (t : Fin cfg0.N) :
    den V c (t.val + 1) = den0 (ids V c t) (fA V c t) (fB V c t) (fC V c t) (fD V c t) (qm V c t) (den V c t.val) := by
  rw [den.eq_2, dif_pos t.isLt]

/-- The first point, and the last, are where the body's tests say. -/
theorem isFirst_iff : ∀ t : Fin cfg0.N, isFirst0 (grid0.coords t) = 1#1 ↔ t.val = 0 := by decide
theorem isLast_iff : ∀ t : Fin cfg0.N, k0_cond2 (grid0.coords t) = 1#1 ↔ t.val = 24 := by decide

/-! ## The proof data -/

/-- Between grid points: the scratch table at the sums so far (at anything before the first point), and the scoped
buffers the kernel does not touch. -/
def Φc (c : Dev nD) (n : ℕ) : sProp 𝕄 :=
  iprop((∃ g, ⌜n ≠ 0 → g = den V c n⌝ ∗ owns (c : Thread nD τ) (Memref.whole cc0_scratch0) fullShare g)
    ∗ Pipeline.scopedRestBut (Ix := Unit) (Name := ℕ) (U := UR sig nD τ) (Lvl := ℕ) (Val := Elt F) spec0 c [cc0_scratch0])

/-- The arrays at entry, what the body leaves in each block, and the invariant. -/
def dat (c : Dev nD) : Dat τ (Elt F) Unit ℕ (UR sig nD τ) ℕ cfg0 c where
  A w := V c (Proc.devRef .tc (Pipeline.arrRef spec0 w))
  after w t := match w with
    | ⟨0, _⟩ => ids V c t
    | ⟨1, _⟩ => fA V c t
    | ⟨2, _⟩ => fB V c t
    | ⟨3, _⟩ => fC V c t
    | ⟨4, _⟩ => fD V c t
    | ⟨5, _⟩ => qm V c t
    | ⟨6, _⟩ => k0_pay5 (fA V c t) (fB V c t) (fC V c t) (fD V c t) (qm V c t)
    | ⟨7, _⟩ => k0_pay3 (den V c (t.val + 1))
  Φ t := Φc V c t.val
  q := Pipeline.shareOf spec0
  owed _ := 0

theorem before0 (c : Dev nD) (t : Fin cfg0.N) (d) : (dat V c).before 0 t d = ids V c t :=
  (dat V c).before_in_eq_fetched 0 rfl (fun _ => rfl) (fun _ _ _ => rfl) (fun _ => rfl) t d
theorem before1 (c : Dev nD) (t : Fin cfg0.N) (d) : (dat V c).before 1 t d = fA V c t :=
  (dat V c).before_in_eq_fetched 1 rfl (fun _ => rfl) (fun _ _ _ => rfl) (fun _ => rfl) t d
theorem before2 (c : Dev nD) (t : Fin cfg0.N) (d) : (dat V c).before 2 t d = fB V c t :=
  (dat V c).before_in_eq_fetched 2 rfl (fun _ => rfl) (fun _ _ _ => rfl) (fun _ => rfl) t d
theorem before3 (c : Dev nD) (t : Fin cfg0.N) (d) : (dat V c).before 3 t d = fC V c t :=
  (dat V c).before_in_eq_fetched 3 rfl (fun _ => rfl) (fun _ _ _ => rfl) (fun _ => rfl) t d
theorem before4 (c : Dev nD) (t : Fin cfg0.N) (d) : (dat V c).before 4 t d = fD V c t :=
  (dat V c).before_in_eq_fetched 4 rfl (fun _ => rfl) (fun _ _ _ => rfl) (fun _ => rfl) t d
theorem before5 (c : Dev nD) (t : Fin cfg0.N) (d) : (dat V c).before 5 t d = qm V c t :=
  (dat V c).before_in_eq_fetched 5 rfl (fun _ => rfl) (fun _ _ _ => rfl) (fun _ => rfl) t d

/-- What the body leaves in the last window's buffer: the reciprocals at the last point, what it found elsewhere. -/
theorem leaves7 (c : Dev nD) (t : Fin cfg0.N) (d) (Y : Vec F S1152x4 .f32) (hY : Y = den V c (t.val + 1)) :
    (owns (c : Thread nD τ) ((cfg0.win 7).stage (cfg0.slots t 7)) fullShare
        (if k0_cond2 (grid0.coords t) = 1#1 then k0_pay3 Y else (dat V c).before 7 t d : Vec F S1152x4 .f32) : sProp 𝕄)
      ⊢ (dat V c).leavesExact 7 t := by
  by_cases h : k0_cond2 (grid0.coords t) = 1#1
  · rw [if_pos h, hY]
    have hi : cfg0.idle 7 (cfg0.grid.coords t) = false := by
      show (!(k0_cond2 (grid0.coords t) == 1#1)) = false
      rw [h]; rfl
    unfold Dat.leavesExact
    rw [hi]
    exact .rfl
  · rw [if_neg h]
    have hi : cfg0.idle 7 (cfg0.grid.coords t) = true := by
      show (!(k0_cond2 (grid0.coords t) == 1#1)) = true
      simp [h]
    have hf : (cfg0.win 7).flush t = false := by
      rw [Bool.eq_false_iff]
      intro hf
      have := (flush0_7 t).mp hf
      exact h ((isLast_iff t).mpr (by have := lt_of_lt_of_eq t.isLt N_0; omega))
    rw [Dat.leavesExact_idle _ _ _ hi hf]
    iintro H
    iexists d
    iexact H

/-- One grid point, from the invariant and the windows' buffers to the next point's. -/
theorem body_obligation (hchk : ∀ c t, k0_chk1 (firstId (ids V c t)) (lastId (ids V c t))) (c : Dev nD) :
    BodyObligation (dat V c) (defs₀ (F := F)) Variants.none () Set.univ := fun t => by
  rw [bigSep_W0, bigSep_W0]
  rw [show (dat V c).Φ t.castSucc = Φc V c t.val from rfl, show (dat V c).Φ t.succ = Φc V c (t.val + 1) from rfl]
  unfold Φc Dat.owesAt Pipeline.owesWithin
  rw [show (dat V c).owed t.castSucc = 0 from rfl, show (dat V c).owed t.succ = 0 from rfl]
  iintro ⟨⟨⟨%g, %hg, Hs⟩, Hr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  rw [before0, before1, before2, before3, before4, before5]
  have hden : den0 (ids V c t) (fA V c t) (fB V c t) (fC V c t) (fD V c t) (qm V c t)
      (if isFirst0 (grid0.coords t) = 1#1 then k0_pay4 else g) = den V c (t.val + 1) := by
    rw [den_succ]
    congr 1
    by_cases h : t.val = 0
    · rw [if_pos ((isFirst_iff t).mpr h), h]; rfl
    · rw [if_neg (fun e => h ((isFirst_iff t).mp e))]; exact hg h
  iapply (Body0.body c (grid0.coords t) _ _ _ _ _ _ _ _ _ _ _ _ _ _ _ _ (Memref.whole cc0_scratch0) (Memref.isWhole_whole _)
    (ids V c t) (fA V c t) (fB V c t) (fC V c t) (fD V c t) (qm V c t) _ _ g (hchk c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hr]
  · isplitl [Hs]
    · iexists _; isplitr; swap; (· iexact Hs); ipureintro; exact fun _ => hden
    · iexact Hr
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  ihave H := (leaves7 V c t d7 _ hden) $$ H7
  iexact H

end Cert.KernelIdeal.Region0
end
-- ==== Proof.Body1.lean ====
module

public import proofs.«01_k».proof.Proof.Steps
public import Idealize.ShloMosaic.Lib.Pipeline.Frame

/-! One grid point of the second kernel, run over memrefs of any slots. -/

@[expose] public section

set_option maxHeartbeats 1000000

noncomputable section

namespace Cert.KernelIdeal.Body1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Steps Cert.KernelIdeal.Words

variable {F : FTy → Type} [FloatOps F]

local notation "𝕄" => MT nD τ sig Unit (Elt F) ℕ (UR sig nD τ) ℕ

/-- A memref's buffer held at contents that read `X` is the memref owned at `X`. -/
theorem owns_of (c : Dev nD) {sp : Space} {S : Shape} {e : EltTy} (M : Memref sig .tc sp S e) (f : Buf (Elt F) (M.view.loc (c : Thread nD τ)))
    (X : S.Idx → Elt F e) (h : M.view.read (Elt F) f = X) :
    (M.view.loc (c : Thread nD τ) ↦[M.view.set]{fullShare} f : sProp 𝕄)
      ⊢ iprop(∃ f', ⌜M.view.read (Elt F) f' = X⌝ ∗ (M.view.loc (c : Thread nD τ) ↦[M.view.set]{fullShare} f')) := by
  iintro H
  iexists f
  isplitl []
  · ipureintro; exact h
  · iexact H

variable (c : Dev nD) (i : grid1.Coords)
  (M1 : Memref sig .tc .vmem S1x1x4000 .i32) (h1 : M1.IsWhole) (M2 : Memref sig .tc .vmem S4000x1 .i32) (h2 : M2.IsWhole)
  (M3 : Memref sig .tc .vmem S4000x16 .f32) (h3 : M3.IsWhole) (M4 : Memref sig .tc .vmem S1152x4 .f32) (h4 : M4.IsWhole)
  (M5 : Memref sig .tc .vmem S4000x1x1x128 .f32) (h5 : M5.IsWhole) (M6 : Memref sig .tc .vmem S4000x1x1x128 .f32) (h6 : M6.IsWhole)
  (M7 : Memref sig .tc .vmem S4000x1x1x128 .f32) (h7 : M7.IsWhole) (M8 : Memref sig .tc .vmem S4000x1x1x128 .f32) (h8 : M8.IsWhole)
  (M9 : Memref sig .tc .vmem S4000x16 .f32) (h9 : M9.IsWhole) (M10 : Memref sig .tc .vmem S1152x512 .f32) (h10 : M10.IsWhole)
  (M11 : Memref sig .tc .vmem S4000x4 .f32) (h11 : M11.IsWhole) (M12 : Memref sig .tc .vmem S1152x512 .f32) (h12 : M12.IsWhole)

/-- One chunk of the gathering loop is one whole store of the block's reciprocals. -/
theorem trip1_eq (v4 : FVec F S4000x16 .f32) (a b : BitVec 32) (hw : k1_chk1 a b) (v28 v29 c128 v30 v35 v37 : BitVec 32) (ids : Vec F S4000x1 .i32)
    (X4 : BufTy.Contents (Elt F) M4.view.ty) (k : Fin (k1_t1_loop a b).trips) (f : BufTy.Contents (Elt F) M11.view.ty) :
    tripL_k1_t1 (F := F) Variants.none c none i M1 h1 M2 h2 M3 h3 M4 h4 M5 h5 M6 h6 M7 h7 M8 h8 M9 h9 M10 h10 M11 h11 M12 h12 v4 a b hw v28 v29 c128 v30 v35 v37 ids X4 k f
      = [⟨Rect.unit (s := S4000x4) ![0, 0] S4000x4.size inb_S4000x4_S4000x4_0_0, k1_pay12 a b v28 ids k
          (M11.view.readAt (Elt F) (Rect.unit (s := S4000x4) ![0, 0] S4000x4.size inb_S4000x4_S4000x4_0_0).toLoadRect f)
          (M4.view.readAt (Elt F) (Rect.unit (s := S1152x4) (k1_off1 a b k) S128x4.size (k1_off1_inb a b hw k)).toLoadRect X4)⟩] := by
  unfold tripL_k1_t1 trip_k1_t1
  rfl

/-- The block's reciprocals after `k` chunks, read through their memref, are the recursion `acc1`. -/
theorem loop1_read (v4 : FVec F S4000x16 .f32) (a b : BitVec 32) (hw : k1_chk1 a b) (v29 c128 v30 v35 v37 : BitVec 32) (ids : Vec F S4000x1 .i32)
    (X4 : BufTy.Contents (Elt F) M4.view.ty) (G : BufTy.Contents (Elt F) M11.view.ty) (hG : M11.view.read (Elt F) G = k1_pay11)
    (k : ℕ) (hk : k ≤ (k1_t1_loop a b).trips) :
    M11.view.read (Elt F) (M11.view.writes (Elt F) G
      (pb_k1_t1 (F := F) Variants.none c none i M1 h1 M2 h2 M3 h3 M4 h4 M5 h5 M6 h6 M7 h7 M8 h8 M9 h9 M10 h10 M11 h11 M12 h12 v4 a b hw (cbW a) v29 c128 v30 v35 v37 ids X4 G k))
      = acc1 (M4.view.read (Elt F) X4) a b hw ids k := by
  induction k with
  | zero => exact hG
  | succ k ih =>
    have hlt : k < (k1_t1_loop a b).trips := hk
    have ih := ih (Nat.le_of_succ_le hk)
    rw [show k + 1 = (⟨k, hlt⟩ : Fin (k1_t1_loop a b).trips).val + 1 from rfl, pb_k1_t1_succ, trip1_eq]
    rw [List.singleton_append, View.read_writes_full, View.readAt_full, View.readAt_unit M4.view _ _ rfl (k1_off1_inb a b hw ⟨k, hlt⟩), ih]
    rw [acc1.eq_2, dif_pos hlt]

/-- One chunk of the feature loop is one store of 128 rows. -/
theorem trip3_eq (v6 : IVec S1x4000 32) (a b : BitVec 32) (hw : k1_chk1 a b) (v28 : BitVec 32) (v63 : FVec F S4000x16 .f32)
    (v66 v68 v70 v72 v87 v102 v117 v119 : FVec F S4000x128 .f32) (k : Fin (k1_t3_loop a b).trips) (f : BufTy.Contents (Elt F) M12.view.ty) :
    tripL_k1_t3 (F := F) Variants.none c none i M1 h1 M2 h2 M3 h3 M4 h4 M5 h5 M6 h6 M7 h7 M8 h8 M9 h9 M10 h10 M11 h11 M12 h12 v6 a b hw v28 v63 v66 v68 v70 v72 v87 v102 v117 v119 k f
      = [⟨Rect.unit (s := S1152x512) (k1_off3 a b k) S128x512.size (k1_off3_inb a b hw k), k1_pay3 v6 a b v28 v63 v66 v68 v70 v72 v87 v102 v117 v119 k
          (M12.view.readAt (Elt F) (Rect.unit (s := S1152x512) (k1_off3 a b k) S128x512.size (k1_off3_inb a b hw k)).toLoadRect f)⟩] := by
  unfold tripL_k1_t3 trip_k1_t3
  rfl

/-- The table of features after `k` chunks, read through its memref, is the recursion `acc3`. -/
theorem loop3_read (v6 : IVec S1x4000 32) (a b : BitVec 32) (hw : k1_chk1 a b) (w : FVec F S4000x16 .f32) (x5 x6 x7 x8 : Vec F S4000x1x1x128 .f32)
    (G : BufTy.Contents (Elt F) M12.view.ty) (k : ℕ) (hk : k ≤ (k1_t3_loop a b).trips) :
    M12.view.read (Elt F) (M12.view.writes (Elt F) G
      (pb_k1_t3 (F := F) Variants.none c none i M1 h1 M2 h2 M3 h3 M4 h4 M5 h5 M6 h6 M7 h7 M8 h8 M9 h9 M10 h10 M11 h11 M12 h12 v6 a b hw (cbW a) w
        (k1_pay15 x5) (k1_pay16 x6) (k1_pay17 x7) (k1_pay18 x8)
        (k1_pay19 w (k1_pay15 x5) x6 x7 x8) (k1_pay20 w (k1_pay15 x5) x6 x7 x8) (k1_pay21 w (k1_pay15 x5) x6 x7 x8) (k1_pay22 w) G k))
      = acc3 w x5 x6 x7 x8 a b hw v6 (M12.view.read (Elt F) G) k := by
  induction k with
  | zero => rfl
  | succ k ih =>
    have hlt : k < (k1_t3_loop a b).trips := hk
    have ih := ih (Nat.le_of_succ_le hk)
    rw [show k + 1 = (⟨k, hlt⟩ : Fin (k1_t3_loop a b).trips).val + 1 from rfl, pb_k1_t3_succ, trip3_eq]
    rw [List.singleton_append, View.read_writes_cons_put _ _ _ _ _ rfl, View.readAt_unit _ _ _ rfl (k1_off3_inb a b hw ⟨k, hlt⟩), ih]
    rw [acc3.eq_2, dif_pos hlt]

/-- After the gathering loops the reciprocals' memref reads `inv1` of the blocks read. -/
theorem inv_read (v4 : FVec F S4000x16 .f32) (x1 : Vec F S1x1x4000 .i32) (hw : k1_chk1 (firstId x1) (lastId x1)) (v29 c128 v30 v35 v37 : BitVec 32)
    (ids : Vec F S4000x1 .i32) (X4 : BufTy.Contents (Elt F) M4.view.ty) (G G' : BufTy.Contents (Elt F) M11.view.ty)
    (C : List (View.Piece (Elt F) S4000x4 .f32)) (hC : M11.view.read (Elt F) (M11.view.writes (Elt F) G C) = k1_pay11) :
    M11.view.read (Elt F) (M11.view.writes (Elt F) G
      (pb_k1_t2 (F := F) Variants.none c none i M1 h1 M2 h2 M3 h3 M4 h4 M5 h5 M6 h6 M7 h7 M8 h8 M9 h9 M10 h10 M11 h11 M12 h12 v4 (firstId x1) (lastId x1) hw (cbW (firstId x1)) v29 c128 v30 v35 v37 ids X4 G'
          (Scf.trips (k1_t2_loop (firstId x1) (lastId x1)).lb (k1_t2_loop (firstId x1) (lastId x1)).ub (k1_t2_loop (firstId x1) (lastId x1)).st)
        ++ (pb_k1_t1 (F := F) Variants.none c none i M1 h1 M2 h2 M3 h3 M4 h4 M5 h5 M6 h6 M7 h7 M8 h8 M9 h9 M10 h10 M11 h11 M12 h12 v4 (firstId x1) (lastId x1) hw (cbW (firstId x1)) v29 c128 v30 v35 v37 ids X4
            (M11.view.writes (Elt F) G C)
            (Scf.trips (k1_t1_loop (firstId x1) (lastId x1)).lb (k1_t1_loop (firstId x1) (lastId x1)).ub (k1_t1_loop (firstId x1) (lastId x1)).st) ++ C)))
      = inv1 x1 ids (M4.view.read (Elt F) X4) := by
  unfold inv1
  rw [dif_pos hw, show Scf.trips (k1_t2_loop (firstId x1) (lastId x1)).lb (k1_t2_loop (firstId x1) (lastId x1)).ub (k1_t2_loop (firstId x1) (lastId x1)).st = 0 from rest_trips _,
    pb_k1_t2.eq_1, List.nil_append, View.writes_append]
  exact loop1_read c i M1 h1 M2 h2 M3 h3 M4 h4 M5 h5 M6 h6 M7 h7 M8 h8 M9 h9 M10 h10 M11 h11 M12 h12 v4 _ _ hw v29 c128 v30 v35 v37 ids X4 _ hC _ le_rfl

/-- After the feature loops the table's memref reads the recursion's end. -/
theorem feat_read (x1 : Vec F S1x1x4000 .i32) (hw : k1_chk1 (firstId x1) (lastId x1)) (w : FVec F S4000x16 .f32) (x5 x6 x7 x8 : Vec F S4000x1x1x128 .f32) (v47 : BitVec 32)
    (G G' : BufTy.Contents (Elt F) M12.view.ty) :
    M12.view.read (Elt F) (M12.view.writes (Elt F) G
      (pb_k1_t4 (F := F) Variants.none c none i M1 h1 M2 h2 M3 h3 M4 h4 M5 h5 M6 h6 M7 h7 M8 h8 M9 h9 M10 h10 M11 h11 M12 h12 (k1_pay7 (F := F) x1) (firstId x1) (lastId x1) hw (cbW (firstId x1)) v47 w
          (k1_pay15 x5) (k1_pay16 x6) (k1_pay17 x7) (k1_pay18 x8)
          (k1_pay19 w (k1_pay15 x5) x6 x7 x8) (k1_pay20 w (k1_pay15 x5) x6 x7 x8) (k1_pay21 w (k1_pay15 x5) x6 x7 x8) (k1_pay22 w) G'
          (Scf.trips (k1_t4_loop (firstId x1) (lastId x1)).lb (k1_t4_loop (firstId x1) (lastId x1)).ub (k1_t4_loop (firstId x1) (lastId x1)).st)
        ++ pb_k1_t3 (F := F) Variants.none c none i M1 h1 M2 h2 M3 h3 M4 h4 M5 h5 M6 h6 M7 h7 M8 h8 M9 h9 M10 h10 M11 h11 M12 h12 (k1_pay7 (F := F) x1) (firstId x1) (lastId x1) hw (cbW (firstId x1)) w
          (k1_pay15 x5) (k1_pay16 x6) (k1_pay17 x7) (k1_pay18 x8)
          (k1_pay19 w (k1_pay15 x5) x6 x7 x8) (k1_pay20 w (k1_pay15 x5) x6 x7 x8) (k1_pay21 w (k1_pay15 x5) x6 x7 x8) (k1_pay22 w) G
          (Scf.trips (k1_t3_loop (firstId x1) (lastId x1)).lb (k1_t3_loop (firstId x1) (lastId x1)).ub (k1_t3_loop (firstId x1) (lastId x1)).st)))
      = acc3 w x5 x6 x7 x8 (firstId x1) (lastId x1) hw (k1_pay7 (F := F) x1) (M12.view.read (Elt F) G) (k1_t3_loop (firstId x1) (lastId x1)).trips := by
  rw [show Scf.trips (k1_t4_loop (firstId x1) (lastId x1)).lb (k1_t4_loop (firstId x1) (lastId x1)).ub (k1_t4_loop (firstId x1) (lastId x1)).st = 0 from rest_trips _,
    pb_k1_t4.eq_1, List.nil_append]
  exact loop3_read c i M1 h1 M2 h2 M3 h3 M4 h4 M5 h5 M6 h6 M7 h7 M8 h8 M9 h9 M10 h10 M11 h11 M12 h12 _ _ _ hw w x5 x6 x7 x8 G _ le_rfl

/-- One grid point: the blocks are read, the weights go out, the table gains the block's features, and at the last
point the table goes out. -/
theorem body (x1 : Vec F S1x1x4000 .i32) (x2 : Vec F S4000x1 .i32) (x3 : Vec F S4000x16 .f32) (x4 : Vec F S1152x4 .f32)
    (x5 x6 x7 x8 : Vec F S4000x1x1x128 .f32) (x9 : Vec F S4000x16 .f32) (x10 : Vec F S1152x512 .f32) (x11 : Vec F S4000x4 .f32) (g : Vec F S1152x512 .f32)
    (hchk : k1_chk1 (firstId x1) (lastId x1)) (Q : PUnit → sProp 𝕄) :
    iprop(owns (c : Thread nD τ) M1 fullShare x1 ∗ owns (c : Thread nD τ) M2 fullShare x2 ∗ owns (c : Thread nD τ) M3 fullShare x3
      ∗ owns (c : Thread nD τ) M4 fullShare x4 ∗ owns (c : Thread nD τ) M5 fullShare x5 ∗ owns (c : Thread nD τ) M6 fullShare x6
      ∗ owns (c : Thread nD τ) M7 fullShare x7 ∗ owns (c : Thread nD τ) M8 fullShare x8 ∗ owns (c : Thread nD τ) M9 fullShare x9
      ∗ owns (c : Thread nD τ) M10 fullShare x10 ∗ owns (c : Thread nD τ) M11 fullShare x11 ∗ owns (c : Thread nD τ) M12 fullShare g
      ∗ (iprop(owns (c : Thread nD τ) M1 fullShare x1 ∗ owns (c : Thread nD τ) M2 fullShare x2 ∗ owns (c : Thread nD τ) M3 fullShare x3
          ∗ owns (c : Thread nD τ) M4 fullShare x4 ∗ owns (c : Thread nD τ) M5 fullShare x5 ∗ owns (c : Thread nD τ) M6 fullShare x6
          ∗ owns (c : Thread nD τ) M7 fullShare x7 ∗ owns (c : Thread nD τ) M8 fullShare x8
          ∗ owns (c : Thread nD τ) M9 fullShare (attn1 x1 x2 x3 x4)
          ∗ owns (c : Thread nD τ) M10 fullShare (if k1_cond2 i = 1#1 then feat1 x1 x2 x3 x4 x5 x6 x7 x8 (if isFirst1 i = 1#1 then k1_pay5 else g) else x10)
          ∗ owns (c : Thread nD τ) M11 fullShare (inv1 x1 x2 x4)
          ∗ owns (c : Thread nD τ) M12 fullShare (feat1 x1 x2 x3 x4 x5 x6 x7 x8 (if isFirst1 i = 1#1 then k1_pay5 else g))) -∗ Q ⟨⟩))
    ⊢ wp frame (wpE (defs₀ (F := F)) Variants.none c none) Set.univ (cc1__attn_compfeat_kernel i M1 h1 M2 h2 M3 h3 M4 h4 M5 h5 M6 h6 M7 h7 M8 h8 M9 h9 M10 h10 M11 h11 M12 h12) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩,
    ⟨%f10, %e10, H10⟩, ⟨%f11, %e11, H11⟩, ⟨%f12, %e12, H12⟩, Hk⟩
  subst e1 e2 e3 e4 e5 e6 e7 e8 e9 e10 e11 e12
  have e1 := View.readAt_full M1.view f1 inb_S1x1x4000_S1x1x4000_0_0_0
  have e2 := View.readAt_full M2.view f2 inb_S4000x1_S4000x1_0_0
  have e3 := View.readAt_full M3.view f3 inb_S4000x16_S4000x16_0_0
  have e5 := View.readAt_full M5.view f5 inb_S4000x1x1x128_S4000x1x1x128_0_0_0_0
  have e6 := View.readAt_full M6.view f6 inb_S4000x1x1x128_S4000x1x1x128_0_0_0_0
  have e7 := View.readAt_full M7.view f7 inb_S4000x1x1x128_S4000x1x1x128_0_0_0_0
  have e8 := View.readAt_full M8.view f8 inb_S4000x1x1x128_S4000x1x1x128_0_0_0_0
  have hchk' : k1_chk1 (extractAt ![0, 0] (k1_pay8 (M1.view.read (Elt F) f1)) inpos_S1x1_p0_0) (extractAt ![0, 0] (k1_pay9 (M1.view.read (Elt F) f1)) inpos_S1x1_p0_0) := hchk
  rw [cc1__attn_compfeat_kernel_eq_skeleton]
  unfold cc1__attn_compfeat_kernel_skel
  rw [k1_part1_eq_skeleton]
  unfold k1_part1_skel
  sl_exec
  have hinv := fun v4 v29 c128 v30 v35 v37 G' hC => inv_read c i M1 h1 M2 h2 M3 h3 M4 h4 M5 h5 M6 h6 M7 h7 M8 h8 M9 h9 M10 h10 M11 h11 M12 h12 v4 (M1.view.read (Elt F) f1) hchk v29 c128 v30 v35 v37 (M2.view.read (Elt F) f2) f4 M11.view.junk G' body.sl.H11_1 hC
  have hC : M11.view.read (Elt F) (M11.view.writes (Elt F) M11.view.junk body.sl.H11_1) = k1_pay11 := by
    unfold body.sl.H11_1
    rw [View.read_writes_full]
  have er2 : body.sl.r_2 c i M1 h1 M2 h2 M3 h3 M4 h4 M5 h5 M6 h6 M7 h7 M8 h8 M9 h9 M10 h10 M11 h11 M12 h12 f1 f2 f3 f4 hchk = attn1 (M1.view.read (Elt F) f1) (M2.view.read (Elt F) f2) (M3.view.read (Elt F) f3) (M4.view.read (Elt F) f4) := by
    unfold body.sl.r_2 attn1
    refine congrArg (k1_pay14 (k1_pay6 (M3.view.read (Elt F) f3))) ?_
    unfold body.sl.v61
    exact (View.readAt_full M11.view _ _).trans (hinv _ _ _ _ _ _ _ hC)
  have hG : M12.view.read (Elt F) (if _hc : isFirst1 i = 1#1 then M12.view.writes (Elt F) f12 [⟨Rect.unit ![0, 0] S1152x512.size inb_S1152x512_S1152x512_0_0, k1_pay5⟩] else f12)
      = if isFirst1 i = 1#1 then k1_pay5 else M12.view.read (Elt F) f12 := by
    split
    · exact View.read_writes_full M12.view _ _ _ _
    · rfl
  have hfeat : ∀ v47 G', _ = feat1 (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (if isFirst1 i = 1#1 then k1_pay5 else M12.view.read (Elt F) f12) := fun v47 G' =>
    (feat_read c i M1 h1 M2 h2 M3 h3 M4 h4 M5 h5 M6 h6 M7 h7 M8 h8 M9 h9 M10 h10 M11 h11 M12 h12 (M1.view.read (Elt F) f1) hchk (body.sl.r_2 c i M1 h1 M2 h2 M3 h3 M4 h4 M5 h5 M6 h6 M7 h7 M8 h8 M9 h9 M10 h10 M11 h11 M12 h12 f1 f2 f3 f4 hchk) (M5.view.read (Elt F) f5) (M6.view.read (Elt F) f6) (M7.view.read (Elt F) f7) (M8.view.read (Elt F) f8) v47
      (if _hc : isFirst1 i = 1#1 then M12.view.writes (Elt F) f12 [⟨Rect.unit ![0, 0] S1152x512.size inb_S1152x512_S1152x512_0_0, k1_pay5⟩] else f12) G').trans (by
        unfold feat1
        rw [dif_pos hchk, hG, er2])
  sl_step
  iapply Hk
  isplitl [H1]; · iapply (owns_of c M1 _ _ rfl); iexact H1
  isplitl [H2]; · iapply (owns_of c M2 _ _ rfl); iexact H2
  isplitl [H3]; · iapply (owns_of c M3 _ _ rfl); iexact H3
  isplitl [H4]; · iapply (owns_of c M4 _ _ rfl); iexact H4
  isplitl [H5]; · iapply (owns_of c M5 _ _ rfl); iexact H5
  isplitl [H6]; · iapply (owns_of c M6 _ _ rfl); iexact H6
  isplitl [H7]; · iapply (owns_of c M7 _ _ rfl); iexact H7
  isplitl [H8]; · iapply (owns_of c M8 _ _ rfl); iexact H8
  isplitl [H9]
  · iapply (owns_of c M9 _ _ ?_)
    rotate_left
    · iexact H9
    · unfold body.sl.H9_1
      rw [View.read_writes_full]
      exact er2
  isplitl [H10]
  · iapply (owns_of c M10 _ _ ?_)
    rotate_left
    · iexact H10
    · split
      · rw [View.read_writes_full]
        unfold body.sl.v144
        exact (View.readAt_full M12.view _ _).trans (hfeat _ _)
      · rfl
  isplitl [H11]
  · iapply (owns_of c M11 _ _ ?_)
    rotate_left
    · iexact H11
    · exact hinv _ _ _ _ _ _ _ hC
  iapply (owns_of c M12 _ _ ?_)
  rotate_left
  · iexact H12
  · exact hfeat _ _

end Cert.KernelIdeal.Body1
end
-- ==== Proof.Region1.lean ====
module

public import proofs.«01_k».proof.Proof.Body1
public import proofs.«01_k».proof.Proof.Gen.KernelIdeal.Regions
public import Idealize.ShloMosaic.Lib.Pipeline.RegionsLoop

/-! The second kernel over its whole grid: the contents of every block at every grid point, from any contents of the
arrays at entry. -/

@[expose] public section

set_option maxHeartbeats 1000000

noncomputable section

namespace Cert.KernelIdeal.Region1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.KernelIdeal.Steps

variable {F : FTy → Type} [FloatOps F]

local notation "𝕄" => MT nD τ sig Unit (Elt F) ℕ (UR sig nD τ) ℕ

variable (V : Dev nD → Valuation τ sig (Elt F))

/-! ## The blocks -/

/-- The component numbers of block `t` as a row and as a column, the exponentials of its scores, the table of
reciprocals, and the four layers of its features. -/
def ids (c : Dev nD) (t : Fin cfg1.N) : Vec F S1x1x4000 .i32 := ((cfg1.win 0).blk t).view.read (Elt F) (V c main_v1)
def idc (c : Dev nD) (t : Fin cfg1.N) : Vec F S4000x1 .i32 := ((cfg1.win 1).blk t).view.read (Elt F) (V c main_v2)
def ex (c : Dev nD) (t : Fin cfg1.N) : Vec F S4000x16 .f32 := ((cfg1.win 2).blk t).view.read (Elt F) (V c main_v22_0)
def rc (c : Dev nD) (t : Fin cfg1.N) : Vec F S1152x4 .f32 := ((cfg1.win 3).blk t).view.read (Elt F) (V c main_v22_1)
def fA (c : Dev nD) (t : Fin cfg1.N) : Vec F S4000x1x1x128 .f32 := ((cfg1.win 4).blk t).view.read (Elt F) (V c main_v0)
def fB (c : Dev nD) (t : Fin cfg1.N) : Vec F S4000x1x1x128 .f32 := ((cfg1.win 5).blk t).view.read (Elt F) (V c main_v0)
def fC (c : Dev nD) (t : Fin cfg1.N) : Vec F S4000x1x1x128 .f32 := ((cfg1.win 6).blk t).view.read (Elt F) (V c main_v0)
def fD (c : Dev nD) (t : Fin cfg1.N) : Vec F S4000x1x1x128 .f32 := ((cfg1.win 7).blk t).view.read (Elt F) (V c main_v0)

/-- The table of component features before grid point `n`. -/
def tab (c : Dev nD) : ℕ → Vec F S1152x512 .f32
  | 0 => k1_pay5
  | n + 1 => if h : n < cfg1.N then
      feat1 (ids V c ⟨n, h⟩) (idc V c ⟨n, h⟩) (ex V c ⟨n, h⟩) (rc V c ⟨n, h⟩) (fA V c ⟨n, h⟩) (fB V c ⟨n, h⟩) (fC V c ⟨n, h⟩) (fD V c ⟨n, h⟩) (tab c n)
    else tab c n

/-- One more grid point. -/
theorem tab_succ (c : Dev nD) (t : Fin cfg1.N) :
    tab V c (t.val + 1) = feat1 (ids V c t) (idc V c t) (ex V c t) (rc V c t) (fA V c t) (fB V c t) (fC V c t) (fD V c t) (tab V c t.val) := by
  rw [tab.eq_2, dif_pos t.isLt]

/-- The first point, and the last, are where the body's tests say. -/
theorem isFirst_iff : ∀ t : Fin cfg1.N, isFirst1 (grid1.coords t) = 1#1 ↔ t.val = 0 := by decide
theorem isLast_iff : ∀ t : Fin cfg1.N, k1_cond2 (grid1.coords t) = 1#1 ↔ t.val = 24 := by decide

/-! ## The proof data -/

/-- Between grid points: the scratch for the gathered reciprocals at anything, the scratch table at the sums so far
(at anything before the first point), and the scoped buffers the kernel does not touch. -/
def Φc (c : Dev nD) (n : ℕ) : sProp 𝕄 :=
  iprop(((∃ h, owns (c : Thread nD τ) (Memref.whole cc1_scratch0) fullShare h)
      ∗ (∃ g, ⌜n ≠ 0 → g = tab V c n⌝ ∗ owns (c : Thread nD τ) (Memref.whole cc1_scratch1) fullShare g))
    ∗ Pipeline.scopedRestBut (Ix := Unit) (Name := ℕ) (U := UR sig nD τ) (Lvl := ℕ) (Val := Elt F) spec1 c [cc1_scratch0, cc1_scratch1])

/-- The arrays at entry, what the body leaves in each block, and the invariant. -/
def dat (c : Dev nD) : Dat τ (Elt F) Unit ℕ (UR sig nD τ) ℕ cfg1 c where
  A w := V c (Proc.devRef .tc (Pipeline.arrRef spec1 w))
  after w t := match w with
    | ⟨0, _⟩ => ids V c t
    | ⟨1, _⟩ => idc V c t
    | ⟨2, _⟩ => ex V c t
    | ⟨3, _⟩ => rc V c t
    | ⟨4, _⟩ => fA V c t
    | ⟨5, _⟩ => fB V c t
    | ⟨6, _⟩ => fC V c t
    | ⟨7, _⟩ => fD V c t
    | ⟨8, _⟩ => attn1 (ids V c t) (idc V c t) (ex V c t) (rc V c t)
    | ⟨9, _⟩ => tab V c (t.val + 1)
  Φ t := Φc V c t.val
  q := Pipeline.shareOf spec1
  owed _ := 0

theorem before0 (c : Dev nD) (t : Fin cfg1.N) (d) : (dat V c).before 0 t d = ids V c t :=
  (dat V c).before_in_eq_fetched 0 rfl (fun _ => rfl) (fun _ _ _ => rfl) (fun _ => rfl) t d
theorem before1 (c : Dev nD) (t : Fin cfg1.N) (d) : (dat V c).before 1 t d = idc V c t :=
  (dat V c).before_in_eq_fetched 1 rfl (fun _ => rfl) (fun _ _ _ => rfl) (fun _ => rfl) t d
theorem before2 (c : Dev nD) (t : Fin cfg1.N) (d) : (dat V c).before 2 t d = ex V c t :=
  (dat V c).before_in_eq_fetched 2 rfl (fun _ => rfl) (fun _ _ _ => rfl) (fun _ => rfl) t d
theorem before3 (c : Dev nD) (t : Fin cfg1.N) (d) : (dat V c).before 3 t d = rc V c t :=
  (dat V c).before_in_eq_fetched 3 rfl (fun _ => rfl) (fun _ _ _ => rfl) (fun _ => rfl) t d
theorem before4 (c : Dev nD) (t : Fin cfg1.N) (d) : (dat V c).before 4 t d = fA V c t :=
  (dat V c).before_in_eq_fetched 4 rfl (fun _ => rfl) (fun _ _ _ => rfl) (fun _ => rfl) t d
theorem before5 (c : Dev nD) (t : Fin cfg1.N) (d) : (dat V c).before 5 t d = fB V c t :=
  (dat V c).before_in_eq_fetched 5 rfl (fun _ => rfl) (fun _ _ _ => rfl) (fun _ => rfl) t d
theorem before6 (c : Dev nD) (t : Fin cfg1.N) (d) : (dat V c).before 6 t d = fC V c t :=
  (dat V c).before_in_eq_fetched 6 rfl (fun _ => rfl) (fun _ _ _ => rfl) (fun _ => rfl) t d
theorem before7 (c : Dev nD) (t : Fin cfg1.N) (d) : (dat V c).before 7 t d = fD V c t :=
  (dat V c).before_in_eq_fetched 7 rfl (fun _ => rfl) (fun _ _ _ => rfl) (fun _ => rfl) t d

/-- What the body leaves in the last window's buffer: the table at the last point, what it found elsewhere. -/
theorem leaves9 (c : Dev nD) (t : Fin cfg1.N) (d) (Y : Vec F S1152x512 .f32) (hY : Y = tab V c (t.val + 1)) :
    (owns (c : Thread nD τ) ((cfg1.win 9).stage (cfg1.slots t 9)) fullShare
        (if k1_cond2 (grid1.coords t) = 1#1 then Y else (dat V c).before 9 t d : Vec F S1152x512 .f32) : sProp 𝕄)
      ⊢ (dat V c).leavesExact 9 t := by
  by_cases h : k1_cond2 (grid1.coords t) = 1#1
  · rw [if_pos h, hY]
    have hi : cfg1.idle 9 (cfg1.grid.coords t) = false := by
      show (!(k1_cond2 (grid1.coords t) == 1#1)) = false
      rw [h]; rfl
    unfold Dat.leavesExact
    rw [hi]
    exact .rfl
  · rw [if_neg h]
    have hi : cfg1.idle 9 (cfg1.grid.coords t) = true := by
      show (!(k1_cond2 (grid1.coords t) == 1#1)) = true
      simp [h]
    have hf : (cfg1.win 9).flush t = false := by
      rw [Bool.eq_false_iff]
      intro hf
      have := (flush1_9 t).mp hf
      exact h ((isLast_iff t).mpr (by have := lt_of_lt_of_eq t.isLt N_1; omega))
    rw [Dat.leavesExact_idle _ _ _ hi hf]
    iintro H
    iexists d
    iexact H

/-- One grid point, from the invariant and the windows' buffers to the next point's. -/
theorem body_obligation (hchk : ∀ c t, k1_chk1 (firstId (ids V c t)) (lastId (ids V c t))) (c : Dev nD) :
    BodyObligation (dat V c) (defs₀ (F := F)) Variants.none () Set.univ := fun t => by
  rw [bigSep_W1, bigSep_W1]
  rw [show (dat V c).Φ t.castSucc = Φc V c t.val from rfl, show (dat V c).Φ t.succ = Φc V c (t.val + 1) from rfl]
  unfold Φc Dat.owesAt Pipeline.owesWithin
  rw [show (dat V c).owed t.castSucc = 0 from rfl, show (dat V c).owed t.succ = 0 from rfl]
  iintro ⟨⟨⟨⟨%h, Hi⟩, ⟨%g, %hg, Hs⟩⟩, Hr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0, before1, before2, before3, before4, before5, before6, before7]
  have htab : feat1 (ids V c t) (idc V c t) (ex V c t) (rc V c t) (fA V c t) (fB V c t) (fC V c t) (fD V c t)
      (if isFirst1 (grid1.coords t) = 1#1 then k1_pay5 else g) = tab V c (t.val + 1) := by
    rw [tab_succ]
    congr 1
    by_cases h : t.val = 0
    · rw [if_pos ((isFirst_iff t).mpr h), h]; rfl
    · rw [if_neg (fun e => h ((isFirst_iff t).mp e))]; exact hg h
  iapply (Body1.body c (grid1.coords t) _ _ _ _ _ _ _ _ _ _ _ _ _ _ _ _ _ _ _ _ (Memref.whole cc1_scratch0) (Memref.isWhole_whole _)
    (Memref.whole cc1_scratch1) (Memref.isWhole_whole _)
    (ids V c t) (idc V c t) (ex V c t) (rc V c t) (fA V c t) (fB V c t) (fC V c t) (fD V c t) _ _ h g (hchk c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hi]; · iexact Hi
  isplitl [Hs]; · iexact Hs
  iintro ⟨H0, H1, H2, H3, H4, H5, H6, H7, H8, H9, Hi, Hs⟩
  isplitl [Hi Hs Hr]
  · isplitl [Hi Hs]
    · isplitl [Hi]
      · iexists _; iexact Hi
      · iexists _; isplitr; swap; (· iexact Hs); ipureintro; exact fun _ => htab
    · iexact Hr
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  ihave H := (leaves9 V c t d9 _ htab) $$ H9
  iexact H

end Cert.KernelIdeal.Region1
end
-- ==== Proof.Run.lean ====
module

public import proofs.«01_k».proof.Proof.Region0
public import proofs.«01_k».proof.Proof.Region1
public import Idealize.ShloMosaic.Lib.Pipeline.RegionArrays

/-! The whole program: the host operations, the two kernels and the host operations after them run to their end, and
what every buffer then holds. -/

@[expose] public section

set_option maxHeartbeats 1000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen Cert.KernelIdeal.Steps

variable {F : FTy → Type} [FloatOps F]

local notation "𝕄" => MT nD τ sig Unit (Elt F) ℕ (UR sig nD τ) ℕ

variable (m : (ℓ : Loc nD τ sig) → Buf (Elt F) ℓ)

/-! ## The buffers between the items -/

/-- The buffers after the first kernel: its two results at what its grid leaves. -/
def W2 (c : Dev nD) : Valuation τ sig (Elt F) :=
  Function.update (Function.update (V1 m c) main_v22_0 ((Region0.dat (V1 m) c).arrAt 6 cfg0.N)) main_v22_1 ((Region0.dat (V1 m) c).arrAt 7 cfg0.N)

/-- The buffers after the second kernel. -/
def W3 (c : Dev nD) : Valuation τ sig (Elt F) :=
  Function.update (Function.update (W2 m c) main_v23_0 ((Region1.dat (W2 m) c).arrAt 8 cfg1.N)) main_v23_1 ((Region1.dat (W2 m) c).arrAt 9 cfg1.N)

/-- What the two kernels leave, as the program's frame names it. -/
def outs : Outs (F := F) := fun J r c => if J = 2 then W2 m c r else W3 m c r

theorem V2_eq (c : Dev nD) : V2 m (outs m) c = W2 m c := by
  have h0 : outs m 2 main_v22_0 c = (Region0.dat (V1 m) c).arrAt 6 cfg0.N := by
    unfold outs W2
    rw [if_pos rfl, Function.update_of_ne (StableHlo.devRef_ne_of_ne (by decide)), Function.update_self]
  have h1 : outs m 2 main_v22_1 c = (Region0.dat (V1 m) c).arrAt 7 cfg0.N := by
    unfold outs W2
    rw [if_pos rfl, Function.update_self]
  unfold V2 W2
  rw [h0, h1]

theorem V3_eq (c : Dev nD) : V3 m (outs m) c = W3 m c := by
  have h0 : outs m 3 main_v23_0 c = (Region1.dat (W2 m) c).arrAt 8 cfg1.N := by
    unfold outs W3
    rw [if_neg (by decide), Function.update_of_ne (StableHlo.devRef_ne_of_ne (by decide)), Function.update_self]
  have h1 : outs m 3 main_v23_1 c = (Region1.dat (W2 m) c).arrAt 9 cfg1.N := by
    unfold outs W3
    rw [if_neg (by decide), Function.update_self]
  unfold V3
  rw [V2_eq, h0, h1]
  rfl

/-- The buffers at the end. -/
def W4 (c : Dev nD) : Valuation τ sig (Elt F) := StableHlo.after hostOps2 (W3 m c)

theorem V4_eq (c : Dev nD) : V4 m (outs m) c = W4 m c := by
  unfold V4 W4
  rw [V3_eq]

/-! ## The two kernels as segments -/

abbrev L : GSem nD τ sig → Finset Unit := fun _ => ∅
abbrev lv : GSem nD τ sig → Unit → ℕ := fun _ _ => 0

/-- The proof data of the two kernels. -/
def dats : (p : Fin 2) → (c : Dev nD) → Dat τ (Elt F) Unit ℕ (UR sig nD τ) ℕ (cfgs p) c
  | ⟨0, _⟩ => Region0.dat (V1 m)
  | ⟨1, _⟩ => Region1.dat (W2 m)

/-- What rides along: the core owes nothing. -/
abbrev R (c : Dev nD) : sProp 𝕄 := iprop(∃ W, owes (c : Thread nD τ) (0 : CellTallies nD τ sig Unit) W)

/-- What the first kernel's arrays hold at its end is what the buffers hold after it. -/
theorem end0 (c : Dev nD) : ∀ w : Fin 8, (Region0.dat (V1 m) c).arrAt w cfg0.N = W2 m c (Proc.devRef .tc (Pipeline.arrRef spec0 w)) := by
  have hin : ∀ w : Fin 8, (cfg0.win w).isOut = false →
      (∀ r ∈ [main_v22_0, main_v22_1], Pipeline.arrRef spec0 w ≠ r) →
      (Region0.dat (V1 m) c).arrAt w cfg0.N = W2 m c (Proc.devRef .tc (Pipeline.arrRef spec0 w)) := by
    intro w h hr
    rw [Dat.arrAt_in (Region0.dat (V1 m) c) w h]
    unfold W2
    rw [Function.update_of_ne (StableHlo.devRef_ne_of_ne (hr _ (by simp))), Function.update_of_ne (StableHlo.devRef_ne_of_ne (hr _ (by simp)))]
    rfl
  intro w
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ =>
    show _ = W2 m c (Proc.devRef .tc main_v22_0)
    unfold W2
    rw [Function.update_of_ne (StableHlo.devRef_ne_of_ne (by decide)), Function.update_self]
    rfl
  | ⟨7, _⟩ =>
    show _ = W2 m c (Proc.devRef .tc main_v22_1)
    unfold W2
    rw [Function.update_self]
    rfl

/-- What the second kernel's arrays hold at its end is what the buffers hold after it. -/
theorem end1 (c : Dev nD) : ∀ w : Fin 10, (Region1.dat (W2 m) c).arrAt w cfg1.N = W3 m c (Proc.devRef .tc (Pipeline.arrRef spec1 w)) := by
  have hin : ∀ w : Fin 10, (cfg1.win w).isOut = false →
      (∀ r ∈ [main_v23_0, main_v23_1], Pipeline.arrRef spec1 w ≠ r) →
      (Region1.dat (W2 m) c).arrAt w cfg1.N = W3 m c (Proc.devRef .tc (Pipeline.arrRef spec1 w)) := by
    intro w h hr
    rw [Dat.arrAt_in (Region1.dat (W2 m) c) w h]
    unfold W3
    rw [Function.update_of_ne (StableHlo.devRef_ne_of_ne (hr _ (by simp))), Function.update_of_ne (StableHlo.devRef_ne_of_ne (hr _ (by simp)))]
    rfl
  intro w
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ =>
    show _ = W3 m c (Proc.devRef .tc main_v23_0)
    unfold W3
    rw [Function.update_of_ne (StableHlo.devRef_ne_of_ne (by decide)), Function.update_self]
    rfl
  | ⟨9, _⟩ =>
    show _ = W3 m c (Proc.devRef .tc main_v23_1)
    unfold W3
    rw [Function.update_self]
    rfl

/-- Off the first kernel's arrays nothing changes; likewise for the second. -/
theorem off0 (c : Dev nD) (b : Ref sig .tc) (hb : b ∉ Finset.univ.image (Pipeline.arrRef spec0)) : W2 m c b = V1 m c b := by
  unfold W2
  rw [Function.update_of_ne, Function.update_of_ne]
  · exact StableHlo.devRef_ne_of_ne fun e => hb (e ▸ Finset.mem_image.mpr ⟨6, Finset.mem_univ _, rfl⟩)
  · exact StableHlo.devRef_ne_of_ne fun e => hb (e ▸ Finset.mem_image.mpr ⟨7, Finset.mem_univ _, rfl⟩)
theorem off1 (c : Dev nD) (b : Ref sig .tc) (hb : b ∉ Finset.univ.image (Pipeline.arrRef spec1)) : W3 m c b = W2 m c b := by
  unfold W3
  rw [Function.update_of_ne, Function.update_of_ne]
  · exact StableHlo.devRef_ne_of_ne fun e => hb (e ▸ Finset.mem_image.mpr ⟨8, Finset.mem_univ _, rfl⟩)
  · exact StableHlo.devRef_ne_of_ne fun e => hb (e ▸ Finset.mem_image.mpr ⟨9, Finset.mem_univ _, rfl⟩)

/-- The scoped buffers no window of the first kernel stages: its table, and the rest; of the second, its two scratch
buffers, and the rest. -/
theorem scoped0 (c : Dev nD) : (Pipeline.scopedRest (Ix := Unit) (Name := ℕ) (U := UR sig nD τ) (Lvl := ℕ) (Val := Elt F) spec0 c : sProp 𝕄)
    = iprop((∃ f : Buf (Elt F) ((c : Thread nD τ).loc cc0_scratch0), ((c : Thread nD τ).loc cc0_scratch0) ↦{fullShare} f)
      ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)
theorem scoped1 (c : Dev nD) : (Pipeline.scopedRest (Ix := Unit) (Name := ℕ) (U := UR sig nD τ) (Lvl := ℕ) (Val := Elt F) spec1 c : sProp 𝕄)
    = iprop(((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f))
      ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

set_option backward.isDefEq.respectTransparency.types false in
/-- The first kernel: entered with every unscoped buffer at `V1`, left with them at `W2`. -/
def reg0 (h0 : ∀ c t, k0_chk1 (firstId (Region0.ids (V1 m) c t)) (lastId (Region0.ids (V1 m) c t))) :
    RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (Region0.body_obligation (V1 m) h0 c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := BI.emp
  Y c := BI.emp
  Z c := Pipeline.unscopedRest spec0 c (fun b => V1 m c b)
  hentry c := by
    rw [← Pipeline.unscopedBufs_held (Ix := Unit) (Name := ℕ) (U := UR sig nD τ) (Lvl := ℕ) c (V1 m c), Pipeline.ownSems0_none, Pipeline.prefHeld_of_none _ rfl]
    have hsplit := Pipeline.arrays_of_unscopedBufs_shared (pcfgs (F := F)) adm (dats m) (p := 0) winFacts₀0 sharedIn0 arr_whole0 c
      (fun _ _ => rfl) (fun b => V1 m c b) (fun _ => rfl)
    iintro ⟨⟨Hub, HO⟩, -, -⟩
    ihave H := hsplit $$ Hub
    icases H with ⟨Ha, Hz⟩
    imodintro
    isplitl [Ha]; · iexact Ha
    isplitr; · iempintro
    isplitl [HO]
    · unfold Dat.owesAt Pipeline.owesWithin
      icases HO with ⟨%W, HO⟩; iexists W; isplitr; · ipureintro; exact fun _ _ => Or.inl trivial
      iexact HO
    isplitr; · iempintro
    iexact Hz
  hin c := by
    change _ ⊢ Region0.Φc (V1 m) c 0
    unfold Region0.Φc
    have hs := Entails.of_eq (scoped0 (F := F) c)
    iintro ⟨-, -, Hr⟩
    ihave Hr := hs $$ Hr
    icases Hr with ⟨⟨%f, Hs⟩, Hr⟩
    isplitl [Hs]
    · iexists f
      isplitr; · ipureintro; exact fun h => absurd rfl h
      rw [owns_whole_eq]
      iexists f
      isplitr; · ipureintro; rfl
      iexact Hs
    · iexact Hr
  hout c := by
    rw [Pipeline.ownSems0_none]
    change Region0.Φc (V1 m) c cfg0.N ⊢ _
    unfold Region0.Φc
    have hs := Entails.of_eq (scoped0 (F := F) c).symm
    simp only [owns_whole_eq]
    iintro ⟨⟨%g, -, ⟨%f, -, Hs⟩⟩, Hr⟩
    isplitr; · iempintro
    isplitr; · iempintro
    iapply hs
    isplitl [Hs]
    · iexists f
      iexact Hs
    · iexact Hr
  hexit c := by
    rw [← Pipeline.unscopedBufs_held (Ix := Unit) (Name := ℕ) (U := UR sig nD τ) (Lvl := ℕ) c (W2 m c)]
    have hjoin := Pipeline.unscopedBufs_of_arrays_shared (pcfgs (F := F)) adm (p := 0) winFacts₀0 sharedIn0 arr_whole0 c (dats m)
      (fun _ _ => rfl) (fun b => V1 m c b) (fun b => W2 m c b) ((dats m 0 c).arrAt · cfg0.N) (end0 m c) (off0 m c)
    iintro ⟨Ha, HO, -, Hz⟩
    imodintro
    isplitr [HO]
    · iapply hjoin
      isplitl [Ha] <;> iassumption
    · unfold Dat.owesAt Pipeline.owesWithin
      icases HO with ⟨%W, -, HO⟩; iexists W; iexact HO

set_option backward.isDefEq.respectTransparency.types false in
/-- The second kernel: entered with every unscoped buffer at `W2`, left with them at `W3`. -/
def reg1 (h1 : ∀ c t, k1_chk1 (firstId (Region1.ids (W2 m) c t)) (lastId (Region1.ids (W2 m) c t))) :
    RegionSeg (pcfgs (F := F)) adm (dats m) () defs₀ Variants.none L lv 1 where
  win := winFacts₀1
  block_pos := block_pos1
  stage_whole := stage_whole1
  K := PEmpty
  osem k := k.elim
  ho := Pipeline.OwnSemFacts.none _
  hbody c := (Region1.body_obligation (W2 m) h1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := BI.emp
  Y c := BI.emp
  Z c := Pipeline.unscopedRest spec1 c (fun b => W2 m c b)
  hentry c := by
    rw [← Pipeline.unscopedBufs_held (Ix := Unit) (Name := ℕ) (U := UR sig nD τ) (Lvl := ℕ) c (W2 m c), Pipeline.ownSems0_none, Pipeline.prefHeld_of_none _ rfl]
    have hsplit := Pipeline.arrays_of_unscopedBufs_shared (pcfgs (F := F)) adm (dats m) (p := 1) winFacts₀1 sharedIn1 arr_whole1 c
      (fun _ _ => rfl) (fun b => W2 m c b) (fun _ => rfl)
    iintro ⟨⟨Hub, HO⟩, -, -⟩
    ihave H := hsplit $$ Hub
    icases H with ⟨Ha, Hz⟩
    imodintro
    isplitl [Ha]; · iexact Ha
    isplitr; · iempintro
    isplitl [HO]
    · unfold Dat.owesAt Pipeline.owesWithin
      icases HO with ⟨%W, HO⟩; iexists W; isplitr; · ipureintro; exact fun _ _ => Or.inl trivial
      iexact HO
    isplitr; · iempintro
    iexact Hz
  hin c := by
    change _ ⊢ Region1.Φc (W2 m) c 0
    unfold Region1.Φc
    have hs := Entails.of_eq (scoped1 (F := F) c)
    iintro ⟨-, -, Hr⟩
    ihave Hr := hs $$ Hr
    icases Hr with ⟨⟨⟨%h, Hi⟩, ⟨%f, Hs⟩⟩, Hr⟩
    isplitl [Hi Hs]
    · isplitl [Hi]
      · iexists h
        rw [owns_whole_eq]
        iexists h
        isplitr; · ipureintro; rfl
        iexact Hi
      · iexists f
        isplitr; · ipureintro; exact fun h => absurd rfl h
        rw [owns_whole_eq]
        iexists f
        isplitr; · ipureintro; rfl
        iexact Hs
    · iexact Hr
  hout c := by
    rw [Pipeline.ownSems0_none]
    change Region1.Φc (W2 m) c cfg1.N ⊢ _
    unfold Region1.Φc
    have hs := Entails.of_eq (scoped1 (F := F) c).symm
    simp only [owns_whole_eq]
    iintro ⟨⟨⟨%h, ⟨%e, -, Hi⟩⟩, ⟨%g, -, ⟨%f, -, Hs⟩⟩⟩, Hr⟩
    isplitr; · iempintro
    isplitr; · iempintro
    iapply hs
    isplitl [Hi Hs]
    · isplitl [Hi]
      · iexists e
        iexact Hi
      · iexists f
        iexact Hs
    · iexact Hr
  hexit c := by
    rw [← Pipeline.unscopedBufs_held (Ix := Unit) (Name := ℕ) (U := UR sig nD τ) (Lvl := ℕ) c (W3 m c)]
    have hjoin := Pipeline.unscopedBufs_of_arrays_shared (pcfgs (F := F)) adm (p := 1) winFacts₀1 sharedIn1 arr_whole1 c (dats m)
      (fun _ _ => rfl) (fun b => W2 m c b) (fun b => W3 m c b) ((dats m 1 c).arrAt · cfg1.N) (end1 m c) (off1 m c)
    iintro ⟨Ha, HO, -, Hz⟩
    imodintro
    isplitr [HO]
    · iapply hjoin
      isplitl [Ha] <;> iassumption
    · unfold Dat.owesAt Pipeline.owesWithin
      icases HO with ⟨%W, -, HO⟩; iexists W; iexact HO

-- the library theorem's implicit arguments are found by unifying its conclusion with this one
set_option backward.isDefEq.respectTransparency.types false in
/-- From any memory with zero counters in which the first and last components of every block are in range, every run
of the program ends, with every unscoped buffer at `W4` and every counter at zero. -/
theorem run (ρ : Dev nD → PrngReg)
    (h0 : ∀ c t, k0_chk1 (firstId (Region0.ids (V1 m) c t)) (lastId (Region0.ids (V1 m) c t)))
    (h1 : ∀ c t, k1_chk1 (firstId (Region1.ids (W2 m) c t)) (lastId (Region1.ids (W2 m) c t))) :
    θ_run defs (onTc (τ := τ) (main (F := F))) ⟨m, fun _ => 0, ρ⟩ (fun r =>
      (∀ (c : Dev nD) (b : Ref sig .tc), b.isScoped = false → r.2.mem ((c.tc : Thread nD τ).loc b) = W4 m c b)
      ∧ r.2.sem = fun _ => 0) := by
  refine Pipeline.θ_run_regions_kit_dev_sems (pcfgs (F := F)) adm (dats m) () cellOf_inj emb₁ defs₀ Variants.none L lv m ρ main
    (segs m (outs m) Variants.none L lv (fun _ => R) () (dats m) (reg0 m h0) (reg1 m h1))
    (fun c Q => by
      rewrite [main_chain c, Seg.run_eq_chain,
        show (segs m (outs m) Variants.none L lv (fun _ => R) () (dats m) (reg0 m h0) (reg1 m h1) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (W4 m c))
    (hch := fun c => ⟨.rfl, .rfl, .rfl, ?_, ?_⟩)
    (hinit := ?_) (QY := fun c s => ∀ b : Ref sig .tc, b.isScoped = false → s.mem ((c.tc : Thread nD τ).loc b) = W4 m c b)
    (hfin := fun c s' => ?_) (hQ := fun _ h hz => ⟨h, funext fun g => hz g (.inr (regions_no_unscoped g.2))⟩)
  · iintro Hu
    imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W3 m c) ∗ R c) ⊢ iprop(StableHlo.held (c : Thread nD τ) (Pipeline.ucRefs τ sig) (V3 m (outs m) c) ∗ R c)
    rw [V3_eq]
  · show iprop(StableHlo.held (c : Thread nD τ) (Pipeline.ucRefs τ sig) (V4 m (outs m) c) ∗ R c) ⊢ _
    rw [V4_eq]
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun e => Bool.false_ne_true (hb.symm.trans e)⟩)
    · iexact HSI

end Cert.KernelIdeal.Run
end
-- ==== Proof.Range.lean ====
module

public import proofs.«01_k».proof.Proof.Run
public import proofs.«01_k».proof.Proof.Gen.Pre_ids
public import Idealize.ShloMosaic.Lib.ReduceAll
public import Idealize.ShloMosaic.Lib.ValueIdx
public import Idealize.ShloMosaic.Lib.Pipeline.Value
public import Idealize.ShloMosaic.Lib.Pipeline.ValueKit

/-! The component numbers: what the preconditions say of them, and what the kernels' blocks hold of them. -/

@[expose] public section

noncomputable section

namespace Cert.KernelIdeal.Range

open Idealize.ShloMosaic Idealize.ShloMosaic.TcCoe Idealize.SL.Sem
open Cert.KernelIdeal Cert.KernelIdeal.Gen Cert.KernelIdeal.Words Cert.KernelIdeal.Steps Cert.KernelIdeal.Run

variable {F : FTy → Type} [FloatOps F]

/-- Two comparisons against 0 and 1024 that both hold say the word is a number below 1024. -/
theorem lt_of_tests (x : BitVec 32) (h : IntOp.andi (IntOp.cmpi .sge x 0#32) (IntOp.cmpi .slt x 1024#32) = 1#1) :
    x.toNat < 1024 := by
  rw [IntOp.andi_eq_one, IntOp.cmpi_sge, IntOp.cmpi_slt] at h
  obtain ⟨h0, h1⟩ := h
  rw [show (0#32).toInt = 0 from rfl] at h0
  rw [show (1024#32).toInt = 1024 from rfl] at h1
  rw [BitVec.toInt_eq_toNat_cond] at h0 h1
  split at h0 <;> omega

instance : Subsingleton Cert.Pre_ids.S_.Idx := ⟨fun a b => funext fun i => i.elim0⟩

/-- Under the range precondition every component number is below 1024. -/
theorem lt_of_ids (x0 : FVec F S100000x4x128 .f32) (x1 : FVec F S4x128 .f32) (x2 : IVec S100000 32)
    (h : Cert.Pre_ids.fn (F := F) x0 x1 x2 = fun _ => 1#1) (i : S100000.Idx) : (x2 i).toNat < 1024 := by
  have e := congrFun h ValueIdx.ix0
  exact lt_of_tests _ (Host.reduce_andi_all _ _ _ _ _ e i)

/-- The component numbers as the kernels' first array holds them. -/
theorem v1_eq (m : (ℓ : Loc nD τ sig) → Buf (Elt F) ℓ) (c : Dev nD) :
    (V1 m c main_v1 : S25x1x4000.Idx → BitVec 32)
      = shapeCast S25x1x4000 (m ((c.tc : Thread nD τ).loc main_arg2)) shapeCasts_S100000_S25x1x4000 := by
  unfold V1
  after_results
  rfl

/-- The second kernel finds the first array of component numbers as the first kernel did. -/
theorem W2_v1 (m : (ℓ : Loc nD τ sig) → Buf (Elt F) ℓ) (c : Dev nD) : W2 m c main_v1 = V1 m c main_v1 := by
  unfold W2
  rw [Function.update_of_ne (by decide), Function.update_of_ne (by decide)]

/-- A grid point as a number below 25. -/
def pt0 (t : Fin cfg0.N) : Fin 25 := ⟨t.val, lt_of_lt_of_eq t.isLt N_0⟩
def pt1 (t : Fin cfg1.N) : Fin 25 := ⟨t.val, lt_of_lt_of_eq t.isLt N_1⟩

theorem e0_0 : ∀ t : Fin cfg0.N, win0_0.index t = ![t.val, 0, 0] := by decide +kernel

/-- Block `t` of the component numbers, read at place `j`, is the array at row `t`, place `j`. -/
theorem ids0_apply (V : Dev nD → Valuation τ sig (Elt F)) (c : Dev nD) (t : Fin cfg0.N) (y : S1x1x4000.Idx) :
    Region0.ids V c t y = V c main_v1 (ValueIdx.ix3 (pt0 t) 0 (y 2)) := by
  unfold Region0.ids
  blk_simp
  congr 1
  blk_ext [e0_0, pt0]

/-- The same for the second kernel. -/
theorem e1_0 : ∀ t : Fin cfg1.N, win1_0.index t = ![t.val, 0, 0] := by decide +kernel

theorem ids1_apply (V : Dev nD → Valuation τ sig (Elt F)) (c : Dev nD) (t : Fin cfg1.N) (y : S1x1x4000.Idx) :
    Region1.ids V c t y = V c main_v1 (ValueIdx.ix3 (pt1 t) 0 (y 2)) := by
  unfold Region1.ids
  blk_simp
  congr 1
  blk_ext [e1_0, pt1]

/-- The node at place `j` of block `t`. -/
def node (t : Fin 25) (j : Fin 4000) : Fin 100000 := ⟨4000 * t.val + j.val, by omega⟩

/-- Row `t`, place `j` of the kernels' array of component numbers is the number of that node. -/
theorem v1_apply (m : (ℓ : Loc nD τ sig) → Buf (Elt F) ℓ) (c : Dev nD) (t : Fin 25) (j : Fin 4000) :
    (V1 m c main_v1 : S25x1x4000.Idx → BitVec 32) (ValueIdx.ix3 t 0 j)
      = (m ((c.tc : Thread nD τ).loc main_arg2) : S100000.Idx → BitVec 32) (ValueIdx.ix1 (node t j)) := by
  rw [v1_eq]
  show m _ _ = _
  congr 1
  apply Shape.reshapeEquiv_eq_of_rowMajor
  rw [Shape.rowMajor_val_three]
  refine (Shape.rowMajor_val_one (ValueIdx.ix1 (node t j))).trans ?_
  show 4000 * t.val + j.val = (t.val * 1 + 0) * 4000 + j.val
  omega

/-- The first and the last number a block holds. -/
theorem firstId_eq (x : Vec F S1x1x4000 .i32) : firstId x = x (ValueIdx.ix3 0 0 0) := by
  show x _ = x _
  congr 1
  apply Shape.reshapeEquiv_eq_of_rowMajor
  rfl

theorem lastId_eq (x : Vec F S1x1x4000 .i32) : lastId x = x (ValueIdx.ix3 0 0 3999) := by
  show x _ = x _
  congr 1
  apply Shape.reshapeEquiv_eq_of_rowMajor
  rfl

/-- A word below 1024 is the word of its number. -/
theorem word_eq (x : BitVec 32) : x = BitVec.ofNat 32 x.toNat := (BitVec.ofNat_toNat 32 x).symm ▸ (BitVec.setWidth_eq x).symm

theorem chk0_of_lt {x y : BitVec 32} (hx : x.toNat < 1024) (hy : y.toNat < 1024) : k0_chk1 x y := by
  rw [word_eq x, word_eq y]; exact chk0 hx hy
theorem chk1_of_lt {x y : BitVec 32} (hx : x.toNat < 1024) (hy : y.toNat < 1024) : k1_chk1 x y := by
  rw [word_eq x, word_eq y]; exact chk1 hx hy

variable (m : (ℓ : Loc nD τ sig) → Buf (Elt F) ℓ)

/-- With every number below 1024 the first kernel's windows lie inside its table. -/
theorem chk_first (h : ∀ (c : Dev nD) i, ((m ((c.tc : Thread nD τ).loc main_arg2) : S100000.Idx → BitVec 32) i).toNat < 1024)
    (c : Dev nD) (t : Fin cfg0.N) : k0_chk1 (firstId (Region0.ids (V1 m) c t)) (lastId (Region0.ids (V1 m) c t)) := by
  have ha : firstId (Region0.ids (V1 m) c t) = _ := (firstId_eq _).trans ((ids0_apply _ c t _).trans (v1_apply m c _ _))
  have hb : lastId (Region0.ids (V1 m) c t) = _ := (lastId_eq _).trans ((ids0_apply _ c t _).trans (v1_apply m c _ _))
  rw [ha, hb]
  exact chk0_of_lt (h _ _) (h _ _)

/-- And the second kernel's. -/
theorem chk_second (h : ∀ (c : Dev nD) i, ((m ((c.tc : Thread nD τ).loc main_arg2) : S100000.Idx → BitVec 32) i).toNat < 1024)
    (c : Dev nD) (t : Fin cfg1.N) : k1_chk1 (firstId (Region1.ids (W2 m) c t)) (lastId (Region1.ids (W2 m) c t)) := by
  have ha : firstId (Region1.ids (W2 m) c t) = _ := (firstId_eq _).trans ((ids1_apply _ c t _).trans
    ((congrFun (W2_v1 m c) _).trans (v1_apply m c _ _)))
  have hb : lastId (Region1.ids (W2 m) c t) = _ := (lastId_eq _).trans ((ids1_apply _ c t _).trans
    ((congrFun (W2_v1 m c) _).trans (v1_apply m c _ _)))
  rw [ha, hb]
  exact chk1_of_lt (h _ _) (h _ _)

/-- An argument's array is written by nothing. -/
theorem W4_arg0 (c : Dev nD) : W4 m c main_arg0 = m ((c.tc : Thread nD τ).loc main_arg0) := by
  rw [← V4_eq]; exact V4_main_arg0 m (outs m) c
theorem W4_arg1 (c : Dev nD) : W4 m c main_arg1 = m ((c.tc : Thread nD τ).loc main_arg1) := by
  rw [← V4_eq]; exact V4_main_arg1 m (outs m) c
theorem W4_arg2 (c : Dev nD) : W4 m c main_arg2 = m ((c.tc : Thread nD τ).loc main_arg2) := by
  rw [← V4_eq]; exact V4_main_arg2 m (outs m) c

/-- With every number below 1024 the program runs, every buffer that outlives the run ends at `W4`, and every counter at zero. -/
theorem run (h : ∀ (c : Dev nD) i, ((m ((c.tc : Thread nD τ).loc main_arg2) : S100000.Idx → BitVec 32) i).toNat < 1024)
    (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W4 m c b)
      ∧ r.2.sem = fun _ => 0) :=
  Run.run m ρ (chk_first m h) (chk_second m h)

/-- With every number below 1024 the program runs, its arguments end as they began, and every counter at zero. -/
theorem frame (h : ∀ (c : Dev nD) i, ((m ((c.tc : Thread nD τ).loc main_arg2) : S100000.Idx → BitVec 32) i).toNat < 1024)
    (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ hr => ⟨fun c => ⟨(hr.1 c main_arg0 rfl).trans (W4_arg0 m c),
    (hr.1 c main_arg1 rfl).trans (W4_arg1 m c), (hr.1 c main_arg2 rfl).trans (W4_arg2 m c)⟩, hr.2⟩) (run m h ρ)

end Cert.KernelIdeal.Range
-- ==== Proof.Segment.lean ====
module

public import proofs.«01_k».proof.Proof.Gen.ReferenceIdeal
public import Idealize.ShloMosaic.Lib.IdealHost
public import Idealize.ShloMosaic.Lib.ValueIdx
public import Idealize.ShloMosaic.Lib.Routing.Ops

/-! The reference's segment sums and row look-ups, read at an index. -/

@[expose] public section

noncomputable section

namespace Cert.ReferenceIdeal.Segment

open Idealize.ShloMosaic Idealize.ShloMosaic.ValueIdx
open Cert.ReferenceIdeal Cert.ReferenceIdeal.Gen
open scoped BigOperators

/-- An update lands at an index exactly where its start plus its window coordinate is that index on every axis. -/
theorem lands_iff {s si u : Shape} (d : ScatterDims s si u) (j : u.Idx) (idx : IVec si 32) (i : s.Idx) :
    d.resultIdx? j idx = some i ↔ ∀ a, d.start j idx a + (d.window j a : ℤ) = ((i a).val : ℤ) := by
  unfold ScatterDims.resultIdx?
  constructor
  · intro e a
    split at e
    · rename_i h
      have := congrArg (fun i : s.Idx => (i a).val) (Option.some.inj e)
      have h' := h a
      simp only at this
      omega
    · exact absurd e (by simp)
  · intro e
    have h : ∀ a, 0 ≤ d.start j idx a + (d.window j a : ℤ) ∧ d.start j idx a + (d.window j a : ℤ) < (s.size a : ℤ) := fun a => by
      have := e a
      have := (i a).isLt
      omega
    rw [dif_pos h]
    refine congrArg some (funext fun a => Fin.ext ?_)
    have := e a
    simp only
    omega

abbrev d2 := scatter_S1024x4_S100000x1_S100000x4_1_0_0_1
abbrev d3 := scatter_S1024x4x128_S100000x1_S100000x4x128_12_0_0_1

/-- A row of heads lands in the row its number names. -/
theorem lands2 (j : S100000x4.Idx) (idx : IVec S100000x1 32) (r : Fin 1024) (h : Fin 4) :
    d2.resultIdx? j idx = some (ix2 r h) ↔ (idx (ix2 (j 0) 0)).toInt = r.val ∧ j 1 = h := by
  have s0 : d2.start j idx 0 = (idx (ix2 (j 0) 0)).toInt := by
    unfold ScatterDims.start
    rw [dif_pos (by decide)]
    refine congrArg (fun k => (idx k).toInt) (funext fun a => ?_)
    match a with
    | ⟨0, _⟩ => rfl
    | ⟨1, _⟩ => rfl
  have s1 : d2.start j idx 1 = 0 := by
    unfold ScatterDims.start
    rw [dif_neg (by decide)]
  have w0 : d2.window j 0 = 0 := by
    unfold ScatterDims.window
    rw [dif_neg (by decide)]
  have w1 : d2.window j 1 = (j 1).val := by
    unfold ScatterDims.window
    rw [dif_pos (by decide)]
    rfl
  rw [lands_iff]
  constructor
  · intro e
    have e0 := e 0
    have e1 := e 1
    rw [s0, w0] at e0
    rw [s1, w1] at e1
    exact ⟨by simpa using e0, Fin.ext (by simpa using e1)⟩
  · rintro ⟨e0, e1⟩ a
    match a with
    | ⟨0, _⟩ => show d2.start j idx 0 + (d2.window j 0 : ℤ) = r.val; rw [s0, w0]; simpa using e0
    | ⟨1, _⟩ => show d2.start j idx 1 + (d2.window j 1 : ℤ) = h.val; rw [s1, w1, ← e1]; simp

/-- The same for rows of heads by features. -/
theorem lands3 (j : S100000x4x128.Idx) (idx : IVec S100000x1 32) (r : Fin 1024) (h : Fin 4) (d : Fin 128) :
    d3.resultIdx? j idx = some (ix3 r h d) ↔ (idx (ix2 (j 0) 0)).toInt = r.val ∧ j 1 = h ∧ j 2 = d := by
  have s0 : d3.start j idx 0 = (idx (ix2 (j 0) 0)).toInt := by
    unfold ScatterDims.start
    rw [dif_pos (by decide)]
    refine congrArg (fun k => (idx k).toInt) (funext fun a => ?_)
    match a with
    | ⟨0, _⟩ => rfl
    | ⟨1, _⟩ => rfl
  have s1 : d3.start j idx 1 = 0 := by
    unfold ScatterDims.start
    rw [dif_neg (by decide)]
  have s2 : d3.start j idx 2 = 0 := by
    unfold ScatterDims.start
    rw [dif_neg (by decide)]
  have w0 : d3.window j 0 = 0 := by
    unfold ScatterDims.window
    rw [dif_neg (by decide)]
  have w1 : d3.window j 1 = (j 1).val := by
    unfold ScatterDims.window
    rw [dif_pos (by decide)]
    rfl
  have w2 : d3.window j 2 = (j 2).val := by
    unfold ScatterDims.window
    rw [dif_pos (by decide)]
    rfl
  rw [lands_iff]
  constructor
  · intro e
    have e0 := e 0
    have e1 := e 1
    have e2 := e 2
    rw [s0, w0] at e0
    rw [s1, w1] at e1
    rw [s2, w2] at e2
    exact ⟨by simpa using e0, Fin.ext (by simpa using e1), Fin.ext (by simpa using e2)⟩
  · rintro ⟨e0, e1, e2⟩ a
    match a with
    | ⟨0, _⟩ => show d3.start j idx 0 + (d3.window j 0 : ℤ) = r.val; rw [s0, w0]; simpa using e0
    | ⟨1, _⟩ => show d3.start j idx 1 + (d3.window j 1 : ℤ) = h.val; rw [s1, w1, ← e1]; simp
    | ⟨2, _⟩ => show d3.start j idx 2 + (d3.window j 2 : ℤ) = d.val; rw [s2, w2, ← e2]; simp

/-- A word below 1024 read signed is its number. -/
theorem toInt_of_lt (x : BitVec 32) (h : x.toNat < 1024) : x.toInt = x.toNat := by
  rw [BitVec.toInt_eq_toNat_cond, if_pos (by omega)]

/-- A segment sum of rows of heads: row `r` gains the rows of the nodes numbered `r`. -/
theorem seg2 (x : FVec Ideal S1024x4 .f32) (idx : IVec S100000x1 32) (u : FVec Ideal S100000x4 .f32)
    (hid : ∀ i, (idx i).toNat < 1024) (r : Fin 1024) (h : Fin 4) :
    Host.scatterAdd d2 x idx u (ix2 r h)
      = x (ix2 r h) + ∑ n : Fin 100000, if (idx (ix2 n 0)).toNat = r.val then u (ix2 n h) else 0 := by
  show x (ix2 r h) + ∑ j ∈ Finset.univ.filter (fun j => d2.resultIdx? j idx = some (ix2 r h)), u j = _
  rw [← Finset.sum_filter]
  refine congrArg (x (ix2 r h) + ·) (Finset.sum_bij' (fun j _ => j 0) (fun n _ => ix2 n h) ?_ ?_ ?_ ?_ ?_)
  · intro j hj
    have := ((lands2 j idx r h).1 (Finset.mem_filter.1 hj).2).1
    rw [toInt_of_lt _ (hid _)] at this
    exact Finset.mem_filter.2 ⟨Finset.mem_univ _, by exact_mod_cast this⟩
  · intro n hn
    refine Finset.mem_filter.2 ⟨Finset.mem_univ _, (lands2 _ idx r h).2 ⟨?_, rfl⟩⟩
    rw [toInt_of_lt _ (hid _)]
    exact_mod_cast (Finset.mem_filter.1 hn).2
  · intro j hj
    have := ((lands2 j idx r h).1 (Finset.mem_filter.1 hj).2).2
    refine Eq.trans ?_ (eq_ix2 j).symm
    rw [this]
    rfl
  · intro n _; rfl
  · intro j hj
    have := ((lands2 j idx r h).1 (Finset.mem_filter.1 hj).2).2
    refine congrArg u ((eq_ix2 j).trans ?_)
    rw [this]
    rfl

/-- A segment sum of rows of heads by features. -/
theorem seg3 (x : FVec Ideal S1024x4x128 .f32) (idx : IVec S100000x1 32) (u : FVec Ideal S100000x4x128 .f32)
    (hid : ∀ i, (idx i).toNat < 1024) (r : Fin 1024) (h : Fin 4) (d : Fin 128) :
    Host.scatterAdd d3 x idx u (ix3 r h d)
      = x (ix3 r h d) + ∑ n : Fin 100000, if (idx (ix2 n 0)).toNat = r.val then u (ix3 n h d) else 0 := by
  show x (ix3 r h d) + ∑ j ∈ Finset.univ.filter (fun j => d3.resultIdx? j idx = some (ix3 r h d)), u j = _
  rw [← Finset.sum_filter]
  refine congrArg (x (ix3 r h d) + ·) (Finset.sum_bij' (fun j _ => j 0) (fun n _ => ix3 n h d) ?_ ?_ ?_ ?_ ?_)
  · intro j hj
    have := ((lands3 j idx r h d).1 (Finset.mem_filter.1 hj).2).1
    rw [toInt_of_lt _ (hid _)] at this
    exact Finset.mem_filter.2 ⟨Finset.mem_univ _, by exact_mod_cast this⟩
  · intro n hn
    refine Finset.mem_filter.2 ⟨Finset.mem_univ _, (lands3 _ idx r h d).2 ⟨?_, rfl, rfl⟩⟩
    rw [toInt_of_lt _ (hid _)]
    exact_mod_cast (Finset.mem_filter.1 hn).2
  · intro j hj
    have := ((lands3 j idx r h d).1 (Finset.mem_filter.1 hj).2).2
    refine Eq.trans ?_ (eq_ix3 j).symm
    rw [this.1, this.2]
    rfl
  · intro n _; rfl
  · intro j hj
    have := ((lands3 j idx r h d).1 (Finset.mem_filter.1 hj).2).2
    refine congrArg u ((eq_ix3 j).trans ?_)
    rw [this.1, this.2]
    rfl

/-- A look-up of rows: node `n` finds the row its number names. -/
theorem look (x : FVec Ideal S1024x4 .f32) (idx : IVec S100000x1 32) (n : Fin 100000) (h : Fin 4) (hid : (idx (ix2 n 0)).toNat < 1024) :
    Host.gather gather_S1024x4_S100000x1_S100000x4_1_0_n_n_0_1_14 x idx (ix2 n h) = x (ix2 ⟨(idx (ix2 n 0)).toNat, hid⟩ h) :=
  Routing.gather_row _ rfl rfl rfl rfl rfl x idx n h ⟨_, hid⟩ (by simp) (by norm_num)

end Cert.ReferenceIdeal.Segment
end
-- ==== Proof.Table.lean ====
module

public import proofs.«01_k».proof.Proof.Steps
public import Idealize.ShloMosaic.Lib.IdealHost
public import Idealize.ShloMosaic.Lib.ValueIdx
public import Idealize.ShloMosaic.Lib.MatmulPlain
public import Idealize.ShloMosaic.Lib.Pipeline.Value

/-! One-hot rows, and the tables that gain a chunk of rows at a time, over the extended reals. -/

@[expose] public section

noncomputable section

namespace Cert.KernelIdeal.Table

open Idealize.ShloMosaic
open Idealize.ShloMosaic.ValueIdx
open Cert.KernelIdeal Cert.KernelIdeal.Gen Cert.KernelIdeal.Words
open scoped BigOperators

/-- Whether row `r` of chunk `k` is the row a component number names. -/
theorem row_iff {A : ℕ} (hA : A < 1024) (k : ℕ) (hk : k < 9) (r : ℕ) (hr : r < 128) (x : BitVec 32) :
    IntOp.cmpi .eq (IntOp.addi (BitVec.ofNat 32 r) (Scalar.addi (cbW (BitVec.ofNat 32 A)) (Scalar.muli (Scf.iv 0#32 1#32 k) 128#32))) x = 1#1
      ↔ x.toNat = cbN A + 128 * k + r := by
  have hc : cbN A < 1024 := by unfold cbN; omega
  rw [cbW_ofNat hA, IntOp.cmpi_eq]
  have e : (IntOp.addi (BitVec.ofNat 32 r) (Scalar.addi (BitVec.ofNat 32 (cbN A)) (Scalar.muli (Scf.iv 0#32 1#32 k) 128#32))).toNat = cbN A + 128 * k + r := by
    show (BitVec.ofNat 32 r + (BitVec.ofNat 32 (cbN A) + (0#32 + BitVec.ofNat 32 k * 1#32) * 128#32)).toNat = _
    simp only [BitVec.toNat_add, BitVec.toNat_mul, BitVec.toNat_ofNat]
    omega
  constructor
  · intro h; rw [← h, e]
  · intro h; exact BitVec.eq_of_toNat_eq (e.trans h.symm)

/-- A test's choice between one and zero. -/
theorem pick (b : BitVec 1) : Scalar.select b (Ideal.ofBits .f32 0x3F800000#32) (Ideal.ofBits .f32 0x00000000#32) = if b = 1#1 then (1 : EReal) else 0 := by
  rw [Ideal.ofBits_one_f32, Ideal.ofBits_zero_f32]
  by_cases h : b = 1#1
  · rw [if_pos h, h, select_one]
  · have h0 : b = 0#1 := eq_zero_of_ne_one h
    rw [if_neg h, h0, select_zero]

/-- A sum against a row of ones and zeros is the sum over the ones. -/
theorem ones_mul {ι : Type} [Fintype ι] (P : ι → Prop) [DecidablePred P] (x : ι → EReal) :
    ∑ j, (if P j then (1 : EReal) else 0) * x j = ∑ j, if P j then x j else 0 :=
  Finset.sum_congr rfl fun j _ => by split <;> simp

/-- A table with 128 rows replaced, read at a row. -/
theorem put_row {W : ℕ} (x : (⟨2, ![1152, W]⟩ : Shape).Idx → EReal) (off : Fin 2 → ℕ) (o : ℕ) (ho : off = ![o, 0])
    (w : (⟨2, ![128, W]⟩ : Shape).Idx → EReal) (r : Fin 1152) (h : Fin W) :
    VecWindow.put (s := ⟨2, ![1152, W]⟩) x off ![128, W] w (ix2 r h)
      = if hr : o ≤ r.val ∧ r.val < o + 128 then w (ix2 ⟨r.val - o, by omega⟩ h) else x (ix2 r h) := by
  subst ho
  unfold VecWindow.put
  by_cases hr : o ≤ r.val ∧ r.val < o + 128
  · have hh := h.isLt
    rw [dif_pos hr, dif_pos (fun a => by
      match a with
      | ⟨0, _⟩ => exact hr
      | ⟨1, _⟩ => exact ⟨Nat.zero_le _, lt_of_lt_of_eq hh (Nat.zero_add _).symm⟩)]
    refine congrArg w (funext fun a => Fin.ext ?_)
    match a with
    | ⟨0, _⟩ => rfl
    | ⟨1, _⟩ => exact Nat.sub_zero _
  · rw [dif_neg hr, dif_neg (fun hall => hr (hall 0))]

/-- A window of 128 rows of a table, read at a row. -/
theorem window_row {W : ℕ} (x : (⟨2, ![1152, W]⟩ : Shape).Idx → EReal) (off : Fin 2 → ℕ) (o : ℕ) (ho : off = ![o, 0])
    (inb : ∀ a, off a + (![128, W] : Fin 2 → ℕ) a ≤ (⟨2, ![1152, W]⟩ : Shape).size a) (r : Fin 128) (h : Fin W) (r' : Fin 1152) (hr : r'.val = o + r.val) :
    VecWindow.window (s := ⟨2, ![1152, W]⟩) x off ![128, W] inb (ix2 r h) = x (ix2 r' h) := by
  subst ho
  refine congrArg x (funext fun a => Fin.ext ?_)
  match a with
  | ⟨0, _⟩ => show o + 1 * r.val = r'.val; omega
  | ⟨1, _⟩ => show 0 + 1 * h.val = h.val; omega

/-- The chunks of a block reach every row its component numbers name. -/
theorem covered {A B n : ℕ} (hA : A ≤ n) (hB : n ≤ B) : cbN A ≤ n ∧ n < cbN A + 128 * nN A B := by
  have : cbN A ≤ A := by unfold cbN; omega
  refine ⟨by omega, ?_⟩
  unfold nN
  rw [if_neg (by omega)]
  omega

/-- Four pieces side by side, read at a column: the piece the column falls in. -/
theorem cat4 {R P T : ℕ} (a b c d : (⟨2, ![R, P]⟩ : Shape).Idx → EReal)
    (hc : Shape.Concatenates [⟨2, ![R, P]⟩, ⟨2, ![R, P]⟩, ⟨2, ![R, P]⟩, ⟨2, ![R, P]⟩] (⟨2, ![R, T]⟩ : Shape) 1)
    (j : Fin R) (l : Fin 4) (k : Fin P) (y : Fin T) (hy : y.val = P * l.val + k.val) :
    concatenate ⟨2, ![R, T]⟩ 1 [⟨⟨2, ![R, P]⟩, a⟩, ⟨⟨2, ![R, P]⟩, b⟩, ⟨⟨2, ![R, P]⟩, c⟩, ⟨⟨2, ![R, P]⟩, d⟩] hc (ix2 j y)
      = (![a, b, c, d] l) (ix2 j k) := by
  have off : ∀ b : Fin 2, b.cast rfl ≠ (1 : Fin 2) → ((ix2 j k : (⟨2, ![R, P]⟩ : Shape).Idx) b).val = ((ix2 j y : (⟨2, ![R, T]⟩ : Shape).Idx) (b.cast rfl)).val := fun b hb => by
    match b with
    | ⟨0, _⟩ => rfl
    | ⟨1, _⟩ => exact absurd rfl hb
  match l with
  | ⟨0, _⟩ => exact concatenate_apply_piece 1 [⟨⟨2, ![R, P]⟩, a⟩, ⟨⟨2, ![R, P]⟩, b⟩, ⟨⟨2, ![R, P]⟩, c⟩, ⟨⟨2, ![R, P]⟩, d⟩] hc (ix2 j y) 0 (by simp) ⟨2, ![R, P]⟩ a rfl rfl (P * 0) (by simp) (ix2 j k) off hy.symm
  | ⟨1, _⟩ => exact concatenate_apply_piece 1 [⟨⟨2, ![R, P]⟩, a⟩, ⟨⟨2, ![R, P]⟩, b⟩, ⟨⟨2, ![R, P]⟩, c⟩, ⟨⟨2, ![R, P]⟩, d⟩] hc (ix2 j y) 1 (by simp) ⟨2, ![R, P]⟩ b rfl rfl (P * 1) (by simp) (ix2 j k) off hy.symm
  | ⟨2, _⟩ => exact concatenate_apply_piece 1 [⟨⟨2, ![R, P]⟩, a⟩, ⟨⟨2, ![R, P]⟩, b⟩, ⟨⟨2, ![R, P]⟩, c⟩, ⟨⟨2, ![R, P]⟩, d⟩] hc (ix2 j y) 2 (by simp) ⟨2, ![R, P]⟩ c rfl rfl (P * 2) (by simp; omega) (ix2 j k) off hy.symm
  | ⟨3, _⟩ => exact concatenate_apply_piece 1 [⟨⟨2, ![R, P]⟩, a⟩, ⟨⟨2, ![R, P]⟩, b⟩, ⟨⟨2, ![R, P]⟩, c⟩, ⟨⟨2, ![R, P]⟩, d⟩] hc (ix2 j y) 3 (by simp) ⟨2, ![R, P]⟩ d rfl rfl (P * 3) (by simp; omega) (ix2 j k) off hy.symm

/-- Column `k` of piece `l` of four of width 128, and column `h` of piece `l` of four of width 4. -/
def at512 (l : Fin 4) (k : Fin 128) : Fin 512 := ⟨128 * l.val + k.val, by omega⟩
def at16 (l h : Fin 4) : Fin 16 := ⟨4 * l.val + h.val, by omega⟩

/-- A sum over 512 columns by piece. -/
theorem sum512 (g : Fin 512 → EReal) : ∑ i, g i = ∑ l : Fin 4, ∑ k : Fin 128, g (at512 l k) := by
  rw [← Fintype.sum_prod_type']
  refine (Fintype.sum_equiv (finProdFinEquiv (m := 4) (n := 128)) _ _ fun p => congrArg g (Fin.ext ?_)).symm
  show 128 * p.1.val + p.2.val = p.2.val + 128 * p.1.val
  omega

end Cert.KernelIdeal.Table
end
-- ==== Proof.HostRead.lean ====
module

public import proofs.«01_k».proof.Proof.Range
public import proofs.«01_k».proof.Proof.Segment
public import proofs.«01_k».proof.Proof.Table
public import Idealize.ShloMosaic.Lib.Routing.OpsSet

/-! The arrays the host hands to the two kernels: the features and the component numbers in other layouts, and the
query matrix, with the query on its four diagonal blocks and zeros elsewhere. -/

@[expose] public section

noncomputable section

namespace Cert.KernelIdeal.HostRead

open Idealize.ShloMosaic hiding ix0 ix1 ix2 ix3 ix4
open Idealize.ShloMosaic.ValueIdx Idealize.ShloMosaic.TcCoe
open Cert.KernelIdeal Cert.KernelIdeal.Gen Cert.KernelIdeal.Table
open Cert.ReferenceIdeal.Segment (lands_iff)

abbrev d4 := scatter_S4x128x4x4_S2_S128x4_01_02_02_0

/-- Where an entry of the transposed query lands: in the block both coordinates of which the start names. -/
theorem lands4 (j : S128x4.Idx) (idx : IVec S2 32) (L : ℕ) (hL : ∀ i, (idx i).toInt = L) (a : Fin 4) (k : Fin 128) (b h : Fin 4) :
    d4.resultIdx? j idx = some (ix4 a k b h) ↔ (a.val = L ∧ b.val = L) ∧ j 0 = k ∧ j 1 = h := by
  have s0 : d4.start j idx 0 = L := by unfold ScatterDims.start; rw [dif_pos (by decide)]; exact hL _
  have s1 : d4.start j idx 1 = 0 := by unfold ScatterDims.start; rw [dif_neg (by decide)]
  have s2 : d4.start j idx 2 = L := by unfold ScatterDims.start; rw [dif_pos (by decide)]; exact hL _
  have s3 : d4.start j idx 3 = 0 := by unfold ScatterDims.start; rw [dif_neg (by decide)]
  have w0 : d4.window j 0 = 0 := by unfold ScatterDims.window; rw [dif_neg (by decide)]
  have w1 : d4.window j 1 = (j 0).val := by unfold ScatterDims.window; rw [dif_pos (by decide)]; rfl
  have w2 : d4.window j 2 = 0 := by unfold ScatterDims.window; rw [dif_neg (by decide)]
  have w3 : d4.window j 3 = (j 1).val := by unfold ScatterDims.window; rw [dif_pos (by decide)]; rfl
  rw [lands_iff]
  constructor
  · intro e
    have e0 := e 0
    have e1 := e 1
    have e2 := e 2
    have e3 := e 3
    rw [s0, w0] at e0
    rw [s1, w1] at e1
    rw [s2, w2] at e2
    rw [s3, w3] at e3
    have e0' : (L : ℤ) + (0 : ℕ) = (a.val : ℤ) := e0
    have e1' : (0 : ℤ) + ((j 0).val : ℤ) = (k.val : ℤ) := e1
    have e2' : (L : ℤ) + (0 : ℕ) = (b.val : ℤ) := e2
    have e3' : (0 : ℤ) + ((j 1).val : ℤ) = (h.val : ℤ) := e3
    exact ⟨⟨by omega, by omega⟩, Fin.ext (by omega), Fin.ext (by omega)⟩
  · rintro ⟨⟨e0, e2⟩, e1, e3⟩ x
    match x with
    | ⟨0, _⟩ => show d4.start j idx 0 + (d4.window j 0 : ℤ) = a.val; rw [s0, w0, e0]; simp
    | ⟨1, _⟩ => show d4.start j idx 1 + (d4.window j 1 : ℤ) = k.val; rw [s1, w1, ← e1]; simp
    | ⟨2, _⟩ => show d4.start j idx 2 + (d4.window j 2 : ℤ) = b.val; rw [s2, w2, e2]; simp
    | ⟨3, _⟩ => show d4.start j idx 3 + (d4.window j 3 : ℤ) = h.val; rw [s3, w3, ← e3]; simp

/-- The block both coordinates of which are `L` set to the transposed query. -/
theorem set4 (x : FVec Ideal S4x128x4x4 .f32) (idx : IVec S2 32) (u : FVec Ideal S128x4 .f32) (L : ℕ) (hL : ∀ i, (idx i).toInt = L)
    (a : Fin 4) (k : Fin 128) (b h : Fin 4) :
    Host.scatter d4 (fun _ b => b) x idx u (ix4 a k b h) = if a.val = L ∧ b.val = L then u (ix2 k h) else x (ix4 a k b h) := by
  by_cases hc : a.val = L ∧ b.val = L
  · rw [if_pos hc]
    refine Routing.scatter_set_hit d4 x idx u _ _ (fun j hj => ?_) (ix2 k h) ((lands4 _ idx L hL a k b h).2 ⟨hc, rfl, rfl⟩)
    obtain ⟨_, e0, e1⟩ := (lands4 j idx L hL a k b h).1 hj
    refine congrArg u ((ValueIdx.eq_ix2 j).trans ?_)
    rw [e0, e1]
    rfl
  · rw [if_neg hc]
    exact Routing.scatter_set_miss d4 x idx u _ fun j hj => hc ((lands4 j idx L hL a k b h).1 hj).1

/-- The start `(w, w)`, as the program builds it. -/
def start (w : BitVec 32) : IVec S2 32 :=
  concatenate S2 0 [⟨S1, broadcastInDim S1 ![] bcast_S_S1 (constantI S_ 32 w)⟩, ⟨S1, broadcastInDim S1 ![] bcast_S_S1 (constantI S_ 32 w)⟩] concatenates_S1_S1_S2_d0

theorem start_apply (w : BitVec 32) (i : S2.Idx) : start w i = w := by
  unfold start
  have h2 : (i 0).val < 2 := (i 0).isLt
  rcases (by omega : (i 0).val = 0 ∨ (i 0).val = 1) with hi | hi
  · exact concatenate_apply_piece 0 [⟨S1, broadcastInDim S1 ![] bcast_S_S1 (constantI S_ 32 w)⟩, ⟨S1, broadcastInDim S1 ![] bcast_S_S1 (constantI S_ 32 w)⟩]
      concatenates_S1_S1_S2_d0 i 0 (by simp) S1 (broadcastInDim S1 ![] bcast_S_S1 (constantI S_ 32 w)) rfl rfl 0 (by simp) (ix1 0)
      (fun b hb => by match b with | ⟨0, _⟩ => exact absurd rfl hb) (by rw [hi]; rfl)
  · exact concatenate_apply_piece 0 [⟨S1, broadcastInDim S1 ![] bcast_S_S1 (constantI S_ 32 w)⟩, ⟨S1, broadcastInDim S1 ![] bcast_S_S1 (constantI S_ 32 w)⟩]
      concatenates_S1_S1_S2_d0 i 1 (by simp) S1 (broadcastInDim S1 ![] bcast_S_S1 (constantI S_ 32 w)) rfl rfl 1 (by simp) (ix1 0)
      (fun b hb => by match b with | ⟨0, _⟩ => exact absurd rfl hb) (by rw [hi]; rfl)

variable (m : (ℓ : Loc nD τ sig) → Buf (Elt Ideal) ℓ) (c : Dev nD)

/-- The features, the query and the component numbers the program starts with. -/
def X0 : FVec Ideal S100000x4x128 .f32 := m ((c.tc : Thread nD τ).loc main_arg0)
def X1 : FVec Ideal S4x128 .f32 := m ((c.tc : Thread nD τ).loc main_arg1)
def X2 : IVec S100000 32 := m ((c.tc : Thread nD τ).loc main_arg2)

/-- The query, transposed. -/
def qT : FVec Ideal S128x4 .f32 := transpose S128x4 [1, 0] (X1 m c) transposes_S4x128_S128x4_1_0

/-- The query matrix in four coordinates. -/
def blocks : FVec Ideal S4x128x4x4 .f32 :=
  Host.scatter d4 (fun _ b => b) (Host.scatter d4 (fun _ b => b) (Host.scatter d4 (fun _ b => b) (Host.scatter d4 (fun _ b => b)
    (broadcastInDim S4x128x4x4 ![] bcast_S_S4x128x4x4 (constant S_ .f32 0x00000000#32 : FVec Ideal S_ .f32)) (start 0#32) (qT m c)) (start 1#32) (qT m c)) (start 2#32) (qT m c)) (start 3#32) (qT m c)

theorem v21_eq : (V1 m c main_v21 : FVec Ideal S512x16 .f32) = shapeCast S512x16 (blocks m c) shapeCasts_S4x128x4x4_S512x16 := by
  unfold V1
  after_results
  rfl

theorem qT_apply (k : Fin 128) (h : Fin 4) : qT m c (ix2 k h) = X1 m c (ix2 h k) :=
  transpose_apply _ _ _ _ _ (fun a => by match a with | ⟨0, _⟩ => rfl | ⟨1, _⟩ => rfl)

theorem blocks_apply (a : Fin 4) (k : Fin 128) (b h : Fin 4) :
    blocks m c (ix4 a k b h) = if a = b then X1 m c (ix2 h k) else 0 := by
  unfold blocks
  rw [set4 _ _ _ 3 (fun i => by rw [start_apply]; rfl), set4 _ _ _ 2 (fun i => by rw [start_apply]; rfl),
    set4 _ _ _ 1 (fun i => by rw [start_apply]; rfl), set4 _ _ _ 0 (fun i => by rw [start_apply]; rfl), qT_apply]
  have ha := a.isLt
  have hb := b.isLt
  by_cases e : a = b
  · subst e
    rw [if_pos rfl]
    split
    · rfl
    split
    · rfl
    split
    · rfl
    rw [if_pos (by omega)]
  · have e' : a.val ≠ b.val := fun h => e (Fin.ext h)
    rw [if_neg e, if_neg (by omega), if_neg (by omega), if_neg (by omega), if_neg (by omega)]
    exact Ideal.ofBits_zero_f32

/-- The query matrix: the query on the diagonal blocks, zeros elsewhere. -/
theorem v21_apply (l : Fin 4) (k : Fin 128) (l' h : Fin 4) :
    (V1 m c main_v21 : FVec Ideal S512x16 .f32) (ix2 (at512 l k) (at16 l' h))
      = if l = l' then X1 m c (ix2 h k) else 0 := by
  rw [v21_eq, ← blocks_apply]
  refine shapeCast_apply _ _ _ (ix4 l k l' h) ?_
  rw [Shape.rowMajor_val_four, Shape.rowMajor_val_two]
  show ((l.val * 128 + k.val) * 4 + l'.val) * 4 + h.val = (128 * l.val + k.val) * 16 + (4 * l'.val + h.val)
  omega

/-- The features by node and layer. -/
theorem v0_apply (n : Fin 100000) (l : Fin 4) (k : Fin 128) :
    (V1 m c main_v0 : FVec Ideal S100000x4x1x128 .f32) (ix4 n l 0 k) = X0 m c (ix3 n l k) := by
  have e : (V1 m c main_v0 : FVec Ideal S100000x4x1x128 .f32)
      = shapeCast S100000x4x1x128 (X0 m c) shapeCasts_S100000x4x128_S100000x4x1x128 := by
    unfold V1
    after_results
    rfl
  rw [e]
  refine shapeCast_apply _ _ _ (ix3 n l k) ?_
  rw [Shape.rowMajor_val_four, Shape.rowMajor_val_three]
  show (n.val * 4 + l.val) * 128 + k.val = ((n.val * 4 + l.val) * 1 + 0) * 128 + k.val
  omega

/-- The component numbers as a column. -/
theorem v2_apply (n : Fin 100000) :
    (V1 m c main_v2 : IVec S100000x1 32) (ix2 n 0) = X2 m c (ix1 n) := by
  have e : (V1 m c main_v2 : IVec S100000x1 32)
      = shapeCast S100000x1 (X2 m c) shapeCasts_S100000_S100000x1 := by
    unfold V1
    after_results
    rfl
  rw [e]
  refine shapeCast_apply _ _ _ (ix1 n) ?_
  rw [Shape.rowMajor_val_one, Shape.rowMajor_val_two]
  show n.val = n.val * 1 + 0
  omega

end Cert.KernelIdeal.HostRead
end
-- ==== Proof.Block0.lean ====
module

public import proofs.«01_k».proof.Proof.Table

/-! One block of the first kernel over the extended reals: the exponentials of the scores, and the rows its
component numbers name gaining their sums. -/

@[expose] public section

noncomputable section

namespace Cert.KernelIdeal.Block0

open Idealize.ShloMosaic
open Idealize.ShloMosaic.ValueIdx
open Cert.KernelIdeal Cert.KernelIdeal.Gen Cert.KernelIdeal.Words Cert.KernelIdeal.Steps Cert.KernelIdeal.Table
open scoped BigOperators

/-- What one chunk adds to a row: the entries of the nodes whose number is that row's. -/
theorem pay1_read {A B : ℕ} (hA : A < 1024) (v : FVec Ideal S4000x4 .f32) (ids : IVec S128x4000 32)
    (k : Fin (k0_t1_loop (BitVec.ofNat 32 A) (BitVec.ofNat 32 B)).trips) (hk : k.val < 9) (g : FVec Ideal S128x4 .f32) (r : Fin 128) (h : Fin 4) :
    k0_pay1 (F := Ideal) v (BitVec.ofNat 32 A) (BitVec.ofNat 32 B) (cbW (BitVec.ofNat 32 A)) ids 0#32 k g (ix2 r h)
      = g (ix2 r h) + ∑ j : Fin 4000, if (ids (ix2 r j)).toNat = cbN A + 128 * k.val + r.val then v (ix2 j h) else 0 := by
  unfold k0_pay1
  simp only []
  rw [shapeCast_self]
  refine congrArg (g (ix2 r h) + ·) ?_
  refine (Ideal.matmul_plain_apply (M := 128) (K := 4000) (N := 4) none _ _ _ r h).trans ?_
  rw [show (constant S128x4 .f32 0x00000000#32 : FVec Ideal S128x4 .f32) (ix2 r h) = (0 : EReal) from Ideal.ofBits_zero_f32, zero_add,
    ← ones_mul]
  refine Finset.sum_congr rfl fun j _ => congrArg (· * v (ix2 j h)) ?_
  refine (pick _).trans ?_
  refine if_congr ?_ rfl rfl
  show IntOp.cmpi .eq (IntOp.addi (iota .tc S128x4000 32 [0] iota_S128x4000_d0_w32 (ix2 r j)) _) _ = 1#1 ↔ _
  rw [iota_single_apply]
  exact row_iff hA k.val hk r.val r.isLt (ids (ix2 r j))

/-- The component numbers spread over the rows of a chunk. -/
theorem pay10_read (x : Vec Ideal S1x1x4000 .i32) (r : Fin 128) (j : Fin 4000) :
    k0_pay10 (k0_pay7 (F := Ideal) x) (ix2 r j) = x (ix3 0 0 j) := by
  unfold k0_pay10 k0_pay7
  simp only []
  rw [shapeCast_self]
  rw [broadcastTo_apply _ _ (ix2 r j) (ix2 0 j) (fun a => by match a with | ⟨0, _⟩ => rfl | ⟨1, _⟩ => rfl)]
  exact shapeCast_apply _ _ _ (ix3 0 0 j) (by rw [Shape.rowMajor_val_three, Shape.rowMajor_val_two]; rfl)

/-- The table after `n` chunks: the rows reached so far hold their sums. -/
theorem acc0_read {A B : ℕ} (hA : A < 1024) (hB : B < 1024) (v : FVec Ideal S4000x4 .f32)
    (hw : k0_chk1 (BitVec.ofNat 32 A) (BitVec.ofNat 32 B)) (ids : IVec S128x4000 32) (id : Fin 4000 → ℕ)
    (hid : ∀ (r : Fin 128) j, (ids (ix2 r j)).toNat = id j) (g : Vec Ideal S1152x4 .f32) (r : Fin 1152) (h : Fin 4) :
    ∀ n : ℕ, n ≤ nN A B → acc0 (F := Ideal) v (BitVec.ofNat 32 A) (BitVec.ofNat 32 B) hw ids g n (ix2 r h)
      = if cbN A ≤ r.val ∧ r.val < cbN A + 128 * n then g (ix2 r h) + ∑ j : Fin 4000, (if id j = r.val then v (ix2 j h) else 0) else g (ix2 r h)
  | 0, _ => by rw [if_neg (by omega)]; rfl
  | n + 1, hn => by
    have ht : (k0_t1_loop (BitVec.ofNat 32 A) (BitVec.ofNat 32 B)).trips = nN A B := main_trips hA hB
    have hn' : n < (k0_t1_loop (BitVec.ofNat 32 A) (BitVec.ofNat 32 B)).trips := by omega
    have h9 := nN_le hA hB
    have ih := acc0_read hA hB v hw ids id hid g r h n (by omega)
    rw [acc0.eq_2, dif_pos hn']
    refine (put_row (W := 4) _ _ _ (off01 hA hB ⟨n, hn'⟩) _ r h).trans ?_
    by_cases hr : cbN A + 128 * n ≤ r.val ∧ r.val < cbN A + 128 * n + 128
    · rw [dif_pos hr, if_pos (by omega), pay1_read hA _ _ _ (by show n < 9; omega)]
      rw [if_neg (by omega)] at ih
      refine congrArg₂ (· + ·) ((window_row (W := 4) _ _ _ (off01 hA hB ⟨n, hn'⟩) _ _ h r (by show r.val = cbN A + 128 * n + (r.val - (cbN A + 128 * n)); omega)).trans ih) ?_
      refine Finset.sum_congr rfl fun j _ => if_congr ?_ rfl rfl
      rw [hid]
      show id j = cbN A + 128 * n + (r.val - (cbN A + 128 * n)) ↔ _
      omega
    · rw [dif_neg hr, ih]
      by_cases h1 : cbN A ≤ r.val ∧ r.val < cbN A + 128 * n
      · rw [if_pos h1, if_pos (by omega)]
      · rw [if_neg h1, if_neg (by omega)]

/-- The table after a block whose numbers are sorted: every row gains the entries of the nodes whose number is that row's. -/
theorem den0_read (x1 : Vec Ideal S1x1x4000 .i32) (x2 x3 x4 x5 : Vec Ideal S4000x1x1x128 .f32) (x6 : Vec Ideal S512x16 .f32)
    (g : Vec Ideal S1152x4 .f32) (id : Fin 4000 → ℕ) (hid : ∀ j, (x1 (ix3 0 0 j)).toNat = id j) (hlt : ∀ j, id j < 1024)
    (hs : ∀ j, id 0 ≤ id j ∧ id j ≤ id 3999) (h1 : firstId x1 = BitVec.ofNat 32 (id 0)) (h2 : lastId x1 = BitVec.ofNat 32 (id 3999))
    (r : Fin 1152) (h : Fin 4) :
    den0 (F := Ideal) x1 x2 x3 x4 x5 x6 g (ix2 r h)
      = g (ix2 r h) + ∑ j : Fin 4000, if id j = r.val then k0_pay6 (F := Ideal) x2 x3 x4 x5 x6 (ix2 j h) else 0 := by
  have hA := hlt 0
  have hB := hlt 3999
  unfold den0
  rw [h1, h2]
  have ht : (k0_t1_loop (BitVec.ofNat 32 (id 0)) (BitVec.ofNat 32 (id 3999))).trips = nN (id 0) (id 3999) := main_trips hA hB
  rw [dif_pos (chk0 hA hB), ht, acc0_read hA hB _ _ _ id (fun r j => by rw [pay10_read, hid]) g r h _ le_rfl]
  split
  · rfl
  · rename_i hr
    rw [Finset.sum_eq_zero fun j _ => if_neg fun e => hr (by have := covered (hs j).1 (hs j).2; omega), add_zero]

/-- A layer's block of features as rows. -/
theorem feature_read (x : Vec Ideal S4000x1x1x128 .f32) (hc : S4000x1x1x128.ShapeCasts S4000x128) (j : Fin 4000) (k : Fin 128) :
    shapeCast S4000x128 x hc (ix2 j k) = x (ix4 j 0 0 k) :=
  shapeCast_apply _ _ _ (ix4 j 0 0 k) (by
    rw [Shape.rowMajor_val_four, Shape.rowMajor_val_two]
    show ((j.val * 1 + 0) * 1 + 0) * 128 + k.val = j.val * 128 + k.val
    omega)

/-- The exponential of node `j`, layer `l`, head `h`: of the product of the layer's features with the head's query,
once the query matrix has the query on its diagonal blocks and zeros elsewhere. -/
theorem pay5_read (x : Fin 4 → Vec Ideal S4000x1x1x128 .f32) (x6 : Vec Ideal S512x16 .f32) (q : Fin 4 → Fin 128 → EReal)
    (hq : ∀ l k l' h, x6 (ix2 (at512 l k) (at16 l' h)) = if l = l' then q h k else 0) (j : Fin 4000) (l h : Fin 4) :
    k0_pay5 (F := Ideal) (x 0) (x 1) (x 2) (x 3) x6 (ix2 j (at16 l h)) = Ideal.exp (∑ k, x l (ix4 j 0 0 k) * q h k) := by
  unfold k0_pay5
  refine congrArg Ideal.exp ?_
  refine (Ideal.matmul_plain_apply (M := 4000) (K := 512) (N := 16) none _ _ _ j (at16 l h)).trans ?_
  rw [show (constant S4000x16 .f32 0x00000000#32 : FVec Ideal S4000x16 .f32) (ix2 j (at16 l h)) = (0 : EReal) from Ideal.ofBits_zero_f32, zero_add,
    sum512, Finset.sum_eq_single l]
  · refine Finset.sum_congr rfl fun k _ => ?_
    rw [shapeCast_self, hq, if_pos rfl, cat4 _ _ _ _ _ j l k (at512 l k) rfl]
    refine congrArg (· * q h k) ?_
    match l with
    | ⟨0, _⟩ => exact feature_read _ _ j k
    | ⟨1, _⟩ => exact feature_read _ _ j k
    | ⟨2, _⟩ => exact feature_read _ _ j k
    | ⟨3, _⟩ => exact feature_read _ _ j k
  · intro l' _ hl
    refine Finset.sum_eq_zero fun k _ => ?_
    rw [shapeCast_self, hq, if_neg hl, mul_zero]
  · exact fun hl => absurd (Finset.mem_univ l) hl

/-- The four layers' exponentials of a head, summed. -/
theorem pay6_read (x2 x3 x4 x5 : Vec Ideal S4000x1x1x128 .f32) (x6 : Vec Ideal S512x16 .f32) (j : Fin 4000) (h : Fin 4) :
    k0_pay6 (F := Ideal) x2 x3 x4 x5 x6 (ix2 j h) = ∑ l, k0_pay5 (F := Ideal) x2 x3 x4 x5 x6 (ix2 j (at16 l h)) := by
  rw [Fin.sum_univ_four]
  unfold k0_pay6
  refine congrArg₂ (· + ·) (congrArg₂ (· + ·) (congrArg₂ (· + ·) ?_ ?_) ?_) ?_ <;>
    exact extractStridedSlice_apply _ _ _ _ _ (fun a => by match a with | ⟨0, _⟩ => exact (Nat.zero_add _).symm | ⟨1, _⟩ => rfl)

/-- The table before the first block. -/
theorem pay4_read (i : S1152x4.Idx) : k0_pay4 (F := Ideal) i = 0 := by
  unfold k0_pay4
  rw [shapeCast_self]
  exact Ideal.ofBits_zero_f32

/-- The reciprocals of a table of sums, each raised to the smallest divisor. -/
theorem pay3_read (x : Vec Ideal S1152x4 .f32) (i : S1152x4.Idx) :
    k0_pay3 (F := Ideal) x i = Ideal.div 1 (max (x i) (Ideal.ofBits .f32 0x3089705F#32)) := by
  show Ideal.div (Ideal.ofBits .f32 0x3F800000#32) _ = _
  rw [Ideal.ofBits_one_f32]
  rfl

end Cert.KernelIdeal.Block0
end
-- ==== Proof.Block1.lean ====
module

public import proofs.«01_k».proof.Proof.Block0

/-! One block of the second kernel over the extended reals: each node's reciprocals looked up in the table, the
weights, and the rows its component numbers name gaining their weighted features. -/

@[expose] public section

noncomputable section

namespace Cert.KernelIdeal.Block1

open Idealize.ShloMosaic
open Idealize.ShloMosaic.ValueIdx
open Cert.KernelIdeal Cert.KernelIdeal.Gen Cert.KernelIdeal.Words Cert.KernelIdeal.Steps Cert.KernelIdeal.Table
open scoped BigOperators

/-- The component numbers as a column, spread over a chunk's rows. -/
theorem pay10_read (x : Vec Ideal S4000x1 .i32) (j : Fin 4000) (r : Fin 128) : k1_pay10 (F := Ideal) x (ix2 j r) = x (ix2 j 0) := by
  unfold k1_pay10
  rw [shapeCast_self, shapeCast_self]
  exact broadcastTo_apply _ _ (ix2 j r) (ix2 j 0) (fun a => by match a with | ⟨0, _⟩ => rfl | ⟨1, _⟩ => rfl)

/-- What one chunk adds to a node: the chunk's row that the node's number names, if it is one of the chunk's. -/
theorem pay12_read {A B : ℕ} (hA : A < 1024) (x : Vec Ideal S4000x1 .i32) (k : Fin (k1_t1_loop (BitVec.ofNat 32 A) (BitVec.ofNat 32 B)).trips) (hk : k.val < 9)
    (g : Vec Ideal S4000x4 .f32) (w : Vec Ideal S128x4 .f32) (j : Fin 4000) (h : Fin 4) :
    k1_pay12 (F := Ideal) (BitVec.ofNat 32 A) (BitVec.ofNat 32 B) (cbW (BitVec.ofNat 32 A)) x k g w (ix2 j h)
      = g (ix2 j h) + ∑ r : Fin 128, if (x (ix2 j 0)).toNat = cbN A + 128 * k.val + r.val then w (ix2 r h) else 0 := by
  unfold k1_pay12
  simp only []
  rw [shapeCast_self, shapeCast_self]
  refine congrArg (g (ix2 j h) + ·) ?_
  refine (Ideal.matmul_plain_apply (M := 4000) (K := 128) (N := 4) none _ _ _ j h).trans ?_
  rw [show (constant S4000x4 .f32 0x00000000#32 : FVec Ideal S4000x4 .f32) (ix2 j h) = (0 : EReal) from Ideal.ofBits_zero_f32, zero_add,
    ← ones_mul]
  refine Finset.sum_congr rfl fun r _ => congrArg (· * w (ix2 r h)) ?_
  refine (pick _).trans ?_
  refine if_congr ?_ rfl rfl
  show IntOp.cmpi .eq (IntOp.addi (iota .tc S4000x128 32 [1] iota_S4000x128_d1_w32 (ix2 j r)) _) (k1_pay10 (F := Ideal) x (ix2 j r)) = 1#1 ↔ _
  rw [iota_single_apply, pay10_read]
  exact row_iff hA k.val hk r.val r.isLt (x (ix2 j 0))

/-- The look-up before the first chunk. -/
theorem pay11_read (i : S4000x4.Idx) : k1_pay11 (F := Ideal) i = 0 := by
  unfold k1_pay11
  rw [shapeCast_self]
  exact Ideal.ofBits_zero_f32

/-- The look-up after `n` chunks: found, if the node's row is among them. -/
theorem acc1_read {A B : ℕ} (hA : A < 1024) (hB : B < 1024) (inv : Vec Ideal S1152x4 .f32) (hw : k1_chk1 (BitVec.ofNat 32 A) (BitVec.ofNat 32 B))
    (x : Vec Ideal S4000x1 .i32) (j : Fin 4000) (h : Fin 4) (r : Fin 1152) (hr : (x (ix2 j 0)).toNat = r.val) :
    ∀ n : ℕ, n ≤ nN A B → acc1 (F := Ideal) inv (BitVec.ofNat 32 A) (BitVec.ofNat 32 B) hw x n (ix2 j h)
      = if cbN A ≤ r.val ∧ r.val < cbN A + 128 * n then inv (ix2 r h) else 0
  | 0, _ => by rw [if_neg (by omega)]; exact pay11_read _
  | n + 1, hn => by
    have ht : (k1_t1_loop (BitVec.ofNat 32 A) (BitVec.ofNat 32 B)).trips = nN A B := main_trips hA hB
    have hn' : n < (k1_t1_loop (BitVec.ofNat 32 A) (BitVec.ofNat 32 B)).trips := by omega
    have h9 := nN_le hA hB
    have ih := acc1_read hA hB inv hw x j h r hr n (by omega)
    rw [acc1.eq_2, dif_pos hn', pay12_read hA _ _ (by show n < 9; omega), ih, hr]
    by_cases hc : cbN A + 128 * n ≤ r.val ∧ r.val < cbN A + 128 * n + 128
    · rw [if_neg (by omega), if_pos (by omega), zero_add, Finset.sum_eq_single (⟨r.val - (cbN A + 128 * n), by omega⟩ : Fin 128)]
      · rw [if_pos (by show r.val = cbN A + 128 * n + (r.val - (cbN A + 128 * n)); omega)]
        exact window_row (W := 4) _ _ _ (off11 hA hB ⟨n, hn'⟩) _ _ h r (by show r.val = cbN A + 128 * n + (r.val - (cbN A + 128 * n)); omega)
      · intro b _ hb
        rw [if_neg]
        intro e
        have e' : r.val = cbN A + 128 * n + b.val := e
        exact hb (Fin.ext (by show b.val = r.val - (cbN A + 128 * n); omega))
      · exact fun hl => absurd (Finset.mem_univ _) hl
    · rw [Finset.sum_eq_zero fun b _ => if_neg fun e => hc (by
        have e' : r.val = cbN A + 128 * n + b.val := e
        have := b.isLt
        omega), add_zero]
      by_cases h1 : cbN A ≤ r.val ∧ r.val < cbN A + 128 * n
      · rw [if_pos h1, if_pos (by omega)]
      · rw [if_neg h1, if_neg (by omega)]

/-- A block's look-up, its numbers sorted: every node finds its row of the table. -/
theorem inv1_read (x1 : Vec Ideal S1x1x4000 .i32) (x2 : Vec Ideal S4000x1 .i32) (x4 : Vec Ideal S1152x4 .f32) (id : Fin 4000 → ℕ)
    (hid : ∀ j, (x2 (ix2 j 0)).toNat = id j) (hlt : ∀ j, id j < 1024) (hs : ∀ j, id 0 ≤ id j ∧ id j ≤ id 3999)
    (h1 : firstId x1 = BitVec.ofNat 32 (id 0)) (h2 : lastId x1 = BitVec.ofNat 32 (id 3999)) (j : Fin 4000) (h : Fin 4) :
    inv1 (F := Ideal) x1 x2 x4 (ix2 j h) = x4 (ix2 ⟨id j, (hlt j).trans (by decide)⟩ h) := by
  have hA := hlt 0
  have hB := hlt 3999
  unfold inv1
  rw [h1, h2]
  have ht : (k1_t1_loop (BitVec.ofNat 32 (id 0)) (BitVec.ofNat 32 (id 3999))).trips = nN (id 0) (id 3999) := main_trips hA hB
  rw [dif_pos (chk1 hA hB), ht, acc1_read hA hB x4 _ x2 j h ⟨id j, (hlt j).trans (by decide)⟩ (hid j) _ le_rfl]
  rw [if_pos (covered (hs j).1 (hs j).2)]

/-- Four equal entries. -/
theorem same4 {α : Type} (v : α) (l : Fin 4) : ![v, v, v, v] l = v := by
  match l with
  | ⟨0, _⟩ => rfl
  | ⟨1, _⟩ => rfl
  | ⟨2, _⟩ => rfl
  | ⟨3, _⟩ => rfl

/-- A block's weights: each exponential times the reciprocal its node and head found. -/
theorem attn1_read (x1 : Vec Ideal S1x1x4000 .i32) (x2 : Vec Ideal S4000x1 .i32) (x3 : Vec Ideal S4000x16 .f32) (x4 : Vec Ideal S1152x4 .f32)
    (j : Fin 4000) (l h : Fin 4) :
    attn1 (F := Ideal) x1 x2 x3 x4 (ix2 j (at16 l h)) = x3 (ix2 j (at16 l h)) * inv1 (F := Ideal) x1 x2 x4 (ix2 j h) := by
  unfold attn1
  generalize inv1 (F := Ideal) x1 x2 x4 = v
  unfold k1_pay14 k1_pay6
  simp only []
  rw [shapeCast_self, mulf_apply, cat4 v v v v _ j l h (at16 l h) rfl, same4]

/-- One column of the weights spread over a row of features. -/
theorem column_read (w : FVec Ideal S4000x16 .f32) (o : ℕ) (hs : S4000x16.Slices ![0, o] S4000x1) (hb : S4000x1.Broadcasts S4000x128)
    (y : Fin 16) (hy : y.val = o) (j : Fin 4000) (d : Fin 128) :
    broadcastTo S4000x128 (extractStridedSlice S4000x1 ![0, o] w hs) hb (ix2 j d) = w (ix2 j y) := by
  rw [broadcastTo_apply _ _ (ix2 j d) (ix2 j 0) (fun a => by match a with | ⟨0, _⟩ => rfl | ⟨1, _⟩ => rfl)]
  exact extractStridedSlice_apply _ _ _ _ _ (fun a => by match a with | ⟨0, _⟩ => exact (Nat.zero_add _).symm | ⟨1, _⟩ => exact hy)

/-- The weighted features of node `j`, head `h`: the four layers' features, each times its weight, summed. -/
theorem heads_read (w : FVec Ideal S4000x16 .f32) (x : Fin 4 → Vec Ideal S4000x1x1x128 .f32) (j : Fin 4000) (h : Fin 4) (d : Fin 128) :
    k1_pay1 (F := Ideal) w (k1_pay15 (x 0)) (k1_pay16 (x 1)) (k1_pay17 (x 2)) (k1_pay18 (x 3))
        (k1_pay19 w (k1_pay15 (x 0)) (x 1) (x 2) (x 3)) (k1_pay20 w (k1_pay15 (x 0)) (x 1) (x 2) (x 3))
        (k1_pay21 w (k1_pay15 (x 0)) (x 1) (x 2) (x 3)) (k1_pay22 w) (ix2 j (at512 h d))
      = ∑ l, w (ix2 j (at16 l h)) * x l (ix4 j 0 0 d) := by
  rw [Fin.sum_univ_four, add_assoc]
  unfold k1_pay1
  refine (cat4 _ _ _ _ _ j h d (at512 h d) rfl).trans ?_
  match h with
  | ⟨0, _⟩ =>
    exact congrArg₂ (· + ·)
      (congrArg₂ (· + ·) (congrArg₂ (· * ·) (column_read w 0 _ _ (at16 0 0) rfl j d) (Block0.feature_read _ _ j d)) (congrArg₂ (· * ·) (column_read w 4 _ _ (at16 1 0) rfl j d) (Block0.feature_read _ _ j d)))
      (congrArg₂ (· + ·) (congrArg₂ (· * ·) (column_read w 8 _ _ (at16 2 0) rfl j d) (Block0.feature_read _ _ j d)) (congrArg₂ (· * ·) (column_read w 12 _ _ (at16 3 0) rfl j d) (Block0.feature_read _ _ j d)))
  | ⟨1, _⟩ =>
    exact congrArg₂ (· + ·)
      (congrArg₂ (· + ·) (congrArg₂ (· * ·) (column_read w 1 _ _ (at16 0 1) rfl j d) (Block0.feature_read _ _ j d)) (congrArg₂ (· * ·) (column_read w 5 _ _ (at16 1 1) rfl j d) (Block0.feature_read _ _ j d)))
      (congrArg₂ (· + ·) (congrArg₂ (· * ·) (column_read w 9 _ _ (at16 2 1) rfl j d) (Block0.feature_read _ _ j d)) (congrArg₂ (· * ·) (column_read w 13 _ _ (at16 3 1) rfl j d) (Block0.feature_read _ _ j d)))
  | ⟨2, _⟩ =>
    exact congrArg₂ (· + ·)
      (congrArg₂ (· + ·) (congrArg₂ (· * ·) (column_read w 2 _ _ (at16 0 2) rfl j d) (Block0.feature_read _ _ j d)) (congrArg₂ (· * ·) (column_read w 6 _ _ (at16 1 2) rfl j d) (Block0.feature_read _ _ j d)))
      (congrArg₂ (· + ·) (congrArg₂ (· * ·) (column_read w 10 _ _ (at16 2 2) rfl j d) (Block0.feature_read _ _ j d)) (congrArg₂ (· * ·) (column_read w 14 _ _ (at16 3 2) rfl j d) (Block0.feature_read _ _ j d)))
  | ⟨3, _⟩ =>
    exact congrArg₂ (· + ·)
      (congrArg₂ (· + ·) (congrArg₂ (· * ·) (column_read w 3 slices_S4000x16_o0_3_S4000x1 broadcasts_S4000x1_S4000x128 (at16 0 3) rfl j d) (Block0.feature_read _ _ j d)) (congrArg₂ (· * ·) (column_read w 7 _ _ (at16 1 3) rfl j d) (Block0.feature_read _ _ j d)))
      (congrArg₂ (· + ·) (congrArg₂ (· * ·) (column_read w 11 _ _ (at16 2 3) rfl j d) (Block0.feature_read _ _ j d)) (congrArg₂ (· * ·) (column_read w 15 _ _ (at16 3 3) rfl j d) (Block0.feature_read _ _ j d)))

/-- The component numbers spread over the rows of a chunk. -/
theorem pay2_read (x : Vec Ideal S1x1x4000 .i32) (r : Fin 128) (j : Fin 4000) : k1_pay2 (k1_pay7 (F := Ideal) x) (ix2 r j) = x (ix3 0 0 j) := by
  unfold k1_pay2 k1_pay7
  simp only []
  rw [shapeCast_self]
  rw [broadcastTo_apply _ _ (ix2 r j) (ix2 0 j) (fun a => by match a with | ⟨0, _⟩ => rfl | ⟨1, _⟩ => rfl)]
  exact shapeCast_apply _ _ _ (ix3 0 0 j) (by rw [Shape.rowMajor_val_three, Shape.rowMajor_val_two]; rfl)

/-- What one chunk adds to a row: the weighted features of the nodes whose number is that row's. -/
theorem pay3_read {A B : ℕ} (hA : A < 1024) (x1 : Vec Ideal S1x1x4000 .i32) (w : FVec Ideal S4000x16 .f32) (f0 f1 f2 f3 h0 h1 h2 w3 : FVec Ideal S4000x128 .f32)
    (k : Fin (k1_t3_loop (BitVec.ofNat 32 A) (BitVec.ofNat 32 B)).trips) (hk : k.val < 9) (g : Vec Ideal S128x512 .f32) (r : Fin 128) (y : Fin 512) :
    k1_pay3 (F := Ideal) (k1_pay7 (F := Ideal) x1) (BitVec.ofNat 32 A) (BitVec.ofNat 32 B) (cbW (BitVec.ofNat 32 A)) w f0 f1 f2 f3 h0 h1 h2 w3 k g (ix2 r y)
      = g (ix2 r y) + ∑ j : Fin 4000, if (x1 (ix3 0 0 j)).toNat = cbN A + 128 * k.val + r.val then
          k1_pay1 (F := Ideal) w f0 f1 f2 f3 h0 h1 h2 w3 (ix2 j y) else 0 := by
  unfold k1_pay3
  simp only []
  rw [shapeCast_self]
  refine congrArg (g (ix2 r y) + ·) ?_
  refine (Ideal.matmul_plain_apply (M := 128) (K := 4000) (N := 512) none _ _ _ r y).trans ?_
  rw [show (constant S128x512 .f32 0x00000000#32 : FVec Ideal S128x512 .f32) (ix2 r y) = (0 : EReal) from Ideal.ofBits_zero_f32, zero_add,
    ← ones_mul]
  refine Finset.sum_congr rfl fun j _ => congrArg (· * k1_pay1 (F := Ideal) w f0 f1 f2 f3 h0 h1 h2 w3 (ix2 j y)) ?_
  refine (pick _).trans ?_
  refine if_congr ?_ rfl rfl
  show IntOp.cmpi .eq (IntOp.addi (iota .tc S128x4000 32 [0] iota_S128x4000_d0_w32 (ix2 r j)) _) (k1_pay2 (k1_pay7 (F := Ideal) x1) (ix2 r j)) = 1#1 ↔ _
  rw [iota_single_apply, pay2_read]
  exact row_iff hA k.val hk r.val r.isLt (x1 (ix3 0 0 j))

/-- The table after `n` chunks: the rows reached so far hold their sums. -/
theorem acc3_read {A B : ℕ} (hA : A < 1024) (hB : B < 1024) (w : FVec Ideal S4000x16 .f32) (x : Fin 4 → Vec Ideal S4000x1x1x128 .f32)
    (hw : k1_chk1 (BitVec.ofNat 32 A) (BitVec.ofNat 32 B)) (x1 : Vec Ideal S1x1x4000 .i32) (id : Fin 4000 → ℕ)
    (hid : ∀ j, (x1 (ix3 0 0 j)).toNat = id j) (g : Vec Ideal S1152x512 .f32) (r : Fin 1152) (h : Fin 4) (d : Fin 128) :
    ∀ n : ℕ, n ≤ nN A B → acc3 (F := Ideal) w (x 0) (x 1) (x 2) (x 3) (BitVec.ofNat 32 A) (BitVec.ofNat 32 B) hw (k1_pay7 (F := Ideal) x1) g n (ix2 r (at512 h d))
      = if cbN A ≤ r.val ∧ r.val < cbN A + 128 * n then
          g (ix2 r (at512 h d)) + ∑ j : Fin 4000, (if id j = r.val then ∑ l, w (ix2 j (at16 l h)) * x l (ix4 j 0 0 d) else 0)
        else g (ix2 r (at512 h d))
  | 0, _ => by rw [if_neg (by omega)]; rfl
  | n + 1, hn => by
    have ht : (k1_t3_loop (BitVec.ofNat 32 A) (BitVec.ofNat 32 B)).trips = nN A B := main_trips hA hB
    have hn' : n < (k1_t3_loop (BitVec.ofNat 32 A) (BitVec.ofNat 32 B)).trips := by omega
    have h9 := nN_le hA hB
    have ih := acc3_read hA hB w x hw x1 id hid g r h d n (by omega)
    rw [acc3.eq_2, dif_pos hn']
    refine (put_row (W := 512) _ _ _ (off13 hA hB ⟨n, hn'⟩) _ r (at512 h d)).trans ?_
    by_cases hr : cbN A + 128 * n ≤ r.val ∧ r.val < cbN A + 128 * n + 128
    · rw [dif_pos hr, if_pos (by omega), pay3_read hA _ _ _ _ _ _ _ _ _ _ _ (by show n < 9; omega)]
      rw [if_neg (by omega)] at ih
      refine congrArg₂ (· + ·) ((window_row (W := 512) _ _ _ (off13 hA hB ⟨n, hn'⟩) _ _ (at512 h d) r (by show r.val = cbN A + 128 * n + (r.val - (cbN A + 128 * n)); omega)).trans ih) ?_
      refine Finset.sum_congr rfl fun j _ => if_congr ?_ (heads_read w x j h d) rfl
      rw [hid]
      show id j = cbN A + 128 * n + (r.val - (cbN A + 128 * n)) ↔ _
      omega
    · rw [dif_neg hr, ih]
      by_cases h1 : cbN A ≤ r.val ∧ r.val < cbN A + 128 * n
      · rw [if_pos h1, if_pos (by omega)]
      · rw [if_neg h1, if_neg (by omega)]

/-- The table after a block whose numbers are sorted: every row gains the weighted features of the nodes whose number is that row's. -/
theorem feat1_read (x1 : Vec Ideal S1x1x4000 .i32) (x2 : Vec Ideal S4000x1 .i32) (x3 : Vec Ideal S4000x16 .f32) (x4 : Vec Ideal S1152x4 .f32)
    (x : Fin 4 → Vec Ideal S4000x1x1x128 .f32) (g : Vec Ideal S1152x512 .f32) (id : Fin 4000 → ℕ)
    (hid : ∀ j, (x1 (ix3 0 0 j)).toNat = id j) (hlt : ∀ j, id j < 1024)
    (hs : ∀ j, id 0 ≤ id j ∧ id j ≤ id 3999) (h1 : firstId x1 = BitVec.ofNat 32 (id 0)) (h2 : lastId x1 = BitVec.ofNat 32 (id 3999))
    (r : Fin 1152) (h : Fin 4) (d : Fin 128) :
    feat1 (F := Ideal) x1 x2 x3 x4 (x 0) (x 1) (x 2) (x 3) g (ix2 r (at512 h d))
      = g (ix2 r (at512 h d)) + ∑ j : Fin 4000, if id j = r.val then ∑ l, attn1 (F := Ideal) x1 x2 x3 x4 (ix2 j (at16 l h)) * x l (ix4 j 0 0 d) else 0 := by
  have hA := hlt 0
  have hB := hlt 3999
  unfold feat1
  rw [h1, h2]
  have ht : (k1_t3_loop (BitVec.ofNat 32 (id 0)) (BitVec.ofNat 32 (id 3999))).trips = nN (id 0) (id 3999) := main_trips hA hB
  rw [dif_pos (chk1 hA hB), ht, acc3_read hA hB _ x _ x1 id hid g r h d _ le_rfl]
  split
  · rfl
  · rename_i hr
    rw [Finset.sum_eq_zero fun j _ => if_neg fun e => hr (by have := covered (hs j).1 (hs j).2; omega), add_zero]

/-- The table before the first block. -/
theorem pay5_read (i : S1152x512.Idx) : k1_pay5 (F := Ideal) i = 0 := by
  unfold k1_pay5
  rw [shapeCast_self]
  exact Ideal.ofBits_zero_f32

end Cert.KernelIdeal.Block1
end
-- ==== Proof.Spec.lean ====
module

public import Idealize.ShloMosaic.Lib.IdealHost

/-! The mathematics of the problem over the extended reals, in plain sums: what the kernel computes, what the reference
computes, and the one equation between them. -/

@[expose] public section

noncomputable section

namespace Cert.Spec

open Idealize.ShloMosaic
open scoped BigOperators

variable (f : Fin 100000 → Fin 4 → Fin 128 → EReal) (q : Fin 4 → Fin 128 → EReal) (c : Fin 100000 → ℕ)

/-- The score of node `n`, layer `l`, head `h`. -/
def sc (n : Fin 100000) (l h : Fin 4) : EReal := ∑ k : Fin 128, f n l k * q h k

/-- Its exponential after a shift by `μ`. -/
def exs (μ : EReal) (n : Fin 100000) (l h : Fin 4) : EReal := Ideal.exp (sc f q n l h - μ)

/-- Its exponential. -/
def ex (n : Fin 100000) (l h : Fin 4) : EReal := Ideal.exp (sc f q n l h)

/-- The sum of `g` over the nodes of component `r`. -/
def seg (g : Fin 100000 → EReal) (r : ℕ) : EReal := ∑ n : Fin 100000, if c n = r then g n else 0

/-- The sum of the exponentials of component `r`. -/
def den (r : ℕ) (h : Fin 4) : EReal := seg c (fun n => ∑ l : Fin 4, ex f q n l h) r

/-- The number both programs clamp a sum at. -/
def eps : EReal := Ideal.ofBits .f32 0x3089705F#32

/-- The weights as the kernel computes them. -/
def attn (n : Fin 100000) (l h : Fin 4) : EReal := ex f q n l h * Ideal.div 1 (max (den f q c (c n) h) eps)

/-- The component features as the kernel computes them. -/
def feat (r : ℕ) (h : Fin 4) (d : Fin 128) : EReal := seg c (fun n => ∑ l : Fin 4, attn f q c n l h * f n l d) r

/-- The clamp is a real between 0 and 1. -/
theorem eps_real : ∃ e : ℝ, eps = (e : EReal) ∧ 0 < e ∧ e ≤ 1 := by
  refine ⟨9007199 / 9007199254740992 * 1 + (eps.toReal - 9007199 / 9007199254740992), ?_, ?_, ?_⟩ <;>
  · unfold eps
    simp [Ideal.ofBits, Ideal.ieee, -EReal.coe_mul]
    try norm_num

theorem sub_zero' (x : EReal) : x - 0 = x := by simp

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exponential of a score shifted by a real is the exponential times a positive real, for a score that is not `⊤`. -/
theorem exp_shift (x : EReal) (hx : x ≠ ⊤) (μ : ℝ) :
    ∃ e : ℝ, 0 ≤ e ∧ Ideal.exp x = (e : EReal) ∧ Ideal.exp (x - (μ : EReal)) = ((e * Real.exp (-μ) : ℝ) : EReal)
      ∧ (x = (μ : EReal) → e * Real.exp (-μ) = 1) := by
  induction x using EReal.rec with
  | bot => exact ⟨0, le_rfl, rfl, by rw [EReal.bot_sub, zero_mul]; rfl, fun h => absurd h (by simp)⟩
  | top => exact absurd rfl hx
  | coe x =>
    refine ⟨Real.exp x, (Real.exp_pos x).le, rfl, ?_, fun h => ?_⟩
    · rw [← EReal.coe_sub]
      show ((Real.exp (x - μ) : ℝ) : EReal) = _
      rw [sub_eq_add_neg, Real.exp_add]
    · rw [EReal.coe_eq_coe_iff] at h
      rw [h, ← Real.exp_add, add_neg_cancel, Real.exp_zero]

/-- **The equation.** Let `M` bound the scores of each component and be one of them or `⊥`, and let the exponentials be
shifted by `M` where it is a real and by nothing where it is not. Where the sum of a node's component is at least the
clamp, the shifted weight is the unshifted one. -/
theorem shift_eq (M : ℕ → Fin 4 → EReal) (n : Fin 100000) (l h : Fin 4)
    (hle : ∀ n' l', c n' = c n → sc f q n' l' h ≤ M (c n) h)
    (hat : M (c n) h = ⊥ ∨ ∃ n' l', c n' = c n ∧ sc f q n' l' h = M (c n) h)
    (hden : eps ≤ den f q c (c n) h) (μ : EReal)
    (hμ : μ = if max (M (c n) h) (-M (c n) h) < ⊤ then M (c n) h else 0) :
    Ideal.div (exs f q μ n l h) (max (seg c (fun n' => ∑ l' : Fin 4, exs f q μ n' l' h) (c n)) eps) = attn f q c n l h := by
  obtain ⟨e, he, he0, he1⟩ := eps_real
  have hne : ∀ x : EReal, max x eps ≠ 0 := fun x => by
    have : (0 : EReal) < max x eps := lt_of_lt_of_le (by rw [he]; exact_mod_cast he0) (le_max_right _ _)
    exact this.ne'
  by_cases hfin : max (M (c n) h) (-M (c n) h) < ⊤
  · rw [if_pos hfin] at hμ
    obtain ⟨m, hm⟩ : ∃ m : ℝ, M (c n) h = (m : EReal) := by
      generalize M (c n) h = x at hfin
      induction x using EReal.rec with
      | bot => simp at hfin
      | top => simp at hfin
      | coe x => exact ⟨x, rfl⟩
    rw [hm] at hμ
    have key : ∀ n' : Fin 100000, ∀ l' : Fin 4, ∃ e : ℝ, c n' = c n → 0 ≤ e ∧ ex f q n' l' h = (e : EReal)
        ∧ exs f q μ n' l' h = ((e * Real.exp (-m) : ℝ) : EReal) ∧ (sc f q n' l' h = (m : EReal) → e * Real.exp (-m) = 1) := by
      intro n' l'
      by_cases hc : c n' = c n
      · have hx : sc f q n' l' h ≠ ⊤ := fun e => by
          have := hle n' l' hc
          rw [hm, e] at this
          simp at this
        obtain ⟨e, h⟩ := exp_shift _ hx m
        refine ⟨e, fun _ => ?_⟩
        unfold ex exs
        rw [hμ]
        exact h
      · exact ⟨0, fun h => absurd h hc⟩
    choose E hE using key
    have hD : den f q c (c n) h = ((∑ n' : Fin 100000, if c n' = c n then ∑ l' : Fin 4, E n' l' else 0 : ℝ) : EReal) := by
      unfold den seg
      rw [coe_sum]
      refine Finset.sum_congr rfl fun n' _ => ?_
      by_cases hc : c n' = c n
      · rw [if_pos hc, if_pos hc, coe_sum]
        exact Finset.sum_congr rfl fun l' _ => (hE n' l' hc).2.1
      · rw [if_neg hc, if_neg hc]; rfl
    have hS : seg c (fun n' => ∑ l' : Fin 4, exs f q μ n' l' h) (c n)
        = (((∑ n' : Fin 100000, if c n' = c n then ∑ l' : Fin 4, E n' l' else 0) * Real.exp (-m) : ℝ) : EReal) := by
      unfold seg
      rw [Finset.sum_mul, coe_sum]
      refine Finset.sum_congr rfl fun n' _ => ?_
      by_cases hc : c n' = c n
      · rw [if_pos hc, if_pos hc, Finset.sum_mul, coe_sum]
        exact Finset.sum_congr rfl fun l' _ => (hE n' l' hc).2.2.1
      · rw [if_neg hc, if_neg hc, zero_mul]; rfl
    have hone : 1 ≤ (∑ n' : Fin 100000, if c n' = c n then ∑ l' : Fin 4, E n' l' else 0) * Real.exp (-m) := by
      rcases hat with hb | ⟨n', l', hc, hs⟩
      · rw [hb] at hm; exact absurd hm (by simp)
      · rw [hm] at hs
        rw [← (hE n' l' hc).2.2.2 hs]
        refine mul_le_mul_of_nonneg_right ?_ (Real.exp_pos _).le
        have h1 : E n' l' ≤ ∑ l'' : Fin 4, E n' l'' :=
          Finset.single_le_sum (f := fun l'' => E n' l'') (fun i _ => (hE n' i hc).1) (Finset.mem_univ l')
        have h2 : (if c n' = c n then ∑ l'' : Fin 4, E n' l'' else 0) ≤ ∑ n'' : Fin 100000, if c n'' = c n then ∑ l'' : Fin 4, E n'' l'' else 0 :=
          Finset.single_le_sum (f := fun n'' => if c n'' = c n then ∑ l'' : Fin 4, E n'' l'' else 0)
            (fun i _ => by
              show 0 ≤ if c i = c n then ∑ l'' : Fin 4, E i l'' else 0
              split
              · rename_i hc'; exact Finset.sum_nonneg fun j _ => (hE i j hc').1
              · exact le_rfl) (Finset.mem_univ n')
        rw [if_pos hc] at h2
        exact h1.trans h2
    generalize hT : (∑ n' : Fin 100000, if c n' = c n then ∑ l' : Fin 4, E n' l' else 0) = T at hD hS hone
    unfold attn
    rw [(hE n l rfl).2.1, (hE n l rfl).2.2.1, hS, hD]
    rw [hD, he] at hden
    have hTe : e ≤ T := by exact_mod_cast hden
    have hT0 : 0 < T := lt_of_lt_of_le he0 hTe
    have hK := Real.exp_pos (-m)
    rw [max_eq_left (by rw [he]; exact_mod_cast he1.trans hone), max_eq_left (by rw [he]; exact_mod_cast hTe),
      Ideal.mul_one_div (by exact_mod_cast hT0.ne'), Ideal.div_coe (mul_pos hT0 hK).ne', Ideal.div_coe hT0.ne',
      ← EReal.coe_mul, ← EReal.coe_mul, EReal.coe_eq_coe_iff]
    generalize Real.exp (-m) = K at hK
    field_simp
  · rw [if_neg hfin] at hμ
    subst hμ
    have hx : ∀ n' l', exs f q 0 n' l' h = ex f q n' l' h := fun n' l' => by unfold exs ex; rw [sub_zero']
    unfold attn
    rw [Ideal.mul_one_div (hne _), hx]
    unfold den
    simp only [hx]

end Cert.Spec
end
-- ==== Proof.RefRead.lean ====
module

public import proofs.«01_k».proof.Proof.Gen.ReferenceIdeal.Read
public import proofs.«01_k».proof.Proof.Segment
public import proofs.«01_k».proof.Proof.Spec
public import Idealize.ShloMosaic.PureOps.Reduce

/-! The reference's results read at an index: the weights and the component features of the specification. -/

@[expose] public section

noncomputable section

namespace Cert.ReferenceIdeal.RefRead

open Idealize.ShloMosaic Idealize.ShloMosaic.ValueIdx
open Cert.ReferenceIdeal Cert.ReferenceIdeal.Gen Cert.ReferenceIdeal.Read Cert.ReferenceIdeal.Segment
open scoped BigOperators

variable (x0 : FVec Ideal S100000x4x128 .f32) (x1 : FVec Ideal S4x128 .f32) (x2 : IVec S100000 32)

/-- The features by node, layer and coordinate. -/
def f (n : Fin 100000) (l : Fin 4) (k : Fin 128) : EReal := x0 (ix3 n l k)
/-- The query by head and coordinate. -/
def q (h : Fin 4) (k : Fin 128) : EReal := x1 (ix2 h k)
/-- The component numbers. -/
def cn (n : Fin 100000) : ℕ := (x2 (ix1 n)).toNat

/-- The scores. -/
theorem v0_read (n : Fin 100000) (l h : Fin 4) : val_main_v0 (F := Ideal) x0 x1 (ix3 n l h) = Spec.sc (f x0) (q x1) n l h := by
  rw [val_main_v0_apply]
  refine Finset.sum_congr rfl fun k _ => congrArg₂ (· * ·) (congrArg x0 ?_) (congrArg x1 ?_)
  · funext a; match a with | ⟨0, _⟩ => rfl | ⟨1, _⟩ => rfl | ⟨2, _⟩ => rfl
  · funext a; match a with | ⟨0, _⟩ => rfl | ⟨1, _⟩ => rfl

theorem ofBits_bot : Ideal.ofBits .f32 0xFF800000#32 = (⊥ : EReal) := by
  simp [Ideal.ofBits, Ideal.ieee, -EReal.coe_mul]

theorem ofBits_top : Ideal.ofBits .f32 0x7F800000#32 = (⊤ : EReal) := by
  simp [Ideal.ofBits, Ideal.ieee, -EReal.coe_mul]

/-- The scores of a component's own nodes, `⊥` elsewhere. -/
theorem v9_read (r : Fin 1024) (n : Fin 100000) (l h : Fin 4) :
    val_main_v9 (F := Ideal) x0 x1 x2 (ix4 r n l h) = if cn x2 n = r.val then Spec.sc (f x0) (q x1) n l h else ⊥ := by
  rw [val_main_v9_apply, val_main_call0_v1_apply, val_main_v7_apply, val_main_v6_apply, val_main_v4_apply, val_main_v1_apply,
    val_main_v5_apply, val_main_v3_apply, val_main_v2_apply, val_main_call0_v2_apply, val_main_v8_apply, val_main_call0_v3_apply,
    val_main_call0_v0_apply, val_main_cst_apply]
  have e0 : x2 (idx_main_v1 (idx_main_v4 (idx_main_v7 (idx_main_call0_v1 (ix4 r n l h))))) = x2 (ix1 n) :=
    congrArg x2 (by funext a; match a with | ⟨0, _⟩ => rfl)
  have e1 : val_main_v0 (F := Ideal) x0 x1 (idx_main_v8 (idx_main_call0_v2 (ix4 r n l h))) = Spec.sc (f x0) (q x1) n l h := by
    rw [← v0_read]
    exact congrArg _ (by funext a; match a with | ⟨0, _⟩ => rfl | ⟨1, _⟩ => rfl | ⟨2, _⟩ => rfl)
  rw [e0, e1]
  show Scalar.select (IntOp.cmpi .eq (x2 (ix1 n)) (BitVec.ofNat 32 r.val)) _ (Ideal.ofBits .f32 0xFF800000#32) = _
  rw [ofBits_bot]
  have hr := r.isLt
  by_cases hc : cn x2 n = r.val
  · have : x2 (ix1 n) = BitVec.ofNat 32 r.val := by rw [← hc]; simp [cn]
    rw [if_pos hc, this, IntOp.cmpi_eq.mpr rfl, select_one]
  · have h0 : IntOp.cmpi .eq (x2 (ix1 n)) (BitVec.ofNat 32 r.val) = 0#1 := eq_zero_of_ne_one fun e => hc (by
      rw [IntOp.cmpi_eq] at e
      unfold cn
      rw [e, BitVec.toNat_ofNat]
      omega)
    rw [if_neg hc, h0, select_zero]

/-- The largest score of component `r` and head `h`. -/
def M (r : Fin 1024) (h : Fin 4) : EReal := val_main_v11 (F := Ideal) x0 x1 x2 (ix2 r h)

theorem v10_fold (j : S1024x4x4.Idx) : val_main_v10 (F := Ideal) x0 x1 x2 j
    = (Finset.univ.filter fun i => reducesTo_S1024x100000x4x4_S1024x4x4_d1.drop i = j).fold max ⊥ (val_main_v9 (F := Ideal) x0 x1 x2) := by
  have h := Host.reduce_eq_fold (max : EReal → EReal → EReal) (val_main_v9 (F := Ideal) x0 x1 x2) (val_main_cst_0 (F := Ideal))
    reducesTo_S1024x100000x4x4_S1024x4x4_d1 h_S_ j
  rw [val_main_cst_0_apply] at h
  exact h.trans (congrArg (fun b => Finset.fold max b _ _) ofBits_bot)

theorem v11_fold (j : S1024x4.Idx) : val_main_v11 (F := Ideal) x0 x1 x2 j
    = (Finset.univ.filter fun i => reducesTo_S1024x4x4_S1024x4_d1.drop i = j).fold max ⊥ (val_main_v10 (F := Ideal) x0 x1 x2) := by
  have h := Host.reduce_eq_fold (max : EReal → EReal → EReal) (val_main_v10 (F := Ideal) x0 x1 x2) (val_main_cst_1 (F := Ideal))
    reducesTo_S1024x4x4_S1024x4_d1 h_S_ j
  rw [val_main_cst_1_apply] at h
  exact h.trans (congrArg (fun b => Finset.fold max b _ _) ofBits_bot)

/-- It bounds the scores of the component. -/
theorem le_M (r : Fin 1024) (n : Fin 100000) (l h : Fin 4) (hc : cn x2 n = r.val) : Spec.sc (f x0) (q x1) n l h ≤ M x0 x1 x2 r h := by
  have h9 := v9_read x0 x1 x2 r n l h
  rw [if_pos hc] at h9
  have h10 : val_main_v9 (F := Ideal) x0 x1 x2 (ix4 r n l h) ≤ val_main_v10 (F := Ideal) x0 x1 x2 (ix3 r l h) := by
    rw [v10_fold]
    refine (Finset.le_fold_max _).2 (Or.inr ⟨_, Finset.mem_filter.2 ⟨Finset.mem_univ _, ?_⟩, le_rfl⟩)
    funext a; match a with | ⟨0, _⟩ => rfl | ⟨1, _⟩ => rfl | ⟨2, _⟩ => rfl
  have h11 : val_main_v10 (F := Ideal) x0 x1 x2 (ix3 r l h) ≤ M x0 x1 x2 r h := by
    unfold M
    rw [v11_fold]
    refine (Finset.le_fold_max _).2 (Or.inr ⟨_, Finset.mem_filter.2 ⟨Finset.mem_univ _, ?_⟩, le_rfl⟩)
    funext a; match a with | ⟨0, _⟩ => rfl | ⟨1, _⟩ => rfl
  rw [← h9]
  exact h10.trans h11

/-- It is one of them, or `⊥`. -/
theorem M_attained (r : Fin 1024) (h : Fin 4) :
    M x0 x1 x2 r h = ⊥ ∨ ∃ n l, cn x2 n = r.val ∧ Spec.sc (f x0) (q x1) n l h = M x0 x1 x2 r h := by
  have h11 : M x0 x1 x2 r h ≤ M x0 x1 x2 r h := le_rfl
  unfold M at h11
  nth_rw 2 [v11_fold] at h11
  rcases (Finset.le_fold_max _).1 h11 with hb | ⟨i, hi, hle⟩
  · exact Or.inl (le_bot_iff.1 hb)
  have di := (Finset.mem_filter.1 hi).2
  rw [v10_fold] at hle
  rcases (Finset.le_fold_max _).1 hle with hb | ⟨k, hk, hle'⟩
  · exact Or.inl (le_bot_iff.1 hb)
  have dk := (Finset.mem_filter.1 hk).2
  rw [← dk] at di
  have k0 : k 0 = r := congrFun di 0
  have k3 : k 3 = h := congrFun di 1
  have ek : k = ix4 r (k 1) (k 2) h := by rw [← k0, ← k3]; exact eq_ix4 k
  replace hle' : val_main_v11 (F := Ideal) x0 x1 x2 (ix2 r h) ≤ val_main_v9 (F := Ideal) x0 x1 x2 (ix4 r (k 1) (k 2) h) :=
    hle'.trans (le_of_eq (congrArg _ ek))
  have h9 := v9_read x0 x1 x2 r (k 1) (k 2) h
  rw [h9] at hle'
  split at hle'
  · rename_i hc
    exact Or.inr ⟨k 1, k 2, hc, le_antisymm (le_M x0 x1 x2 r _ _ h hc) hle'⟩
  · exact Or.inl (le_bot_iff.1 hle')

/-- The shift of component `r` and head `h`. -/
def mu (r : Fin 1024) (h : Fin 4) : EReal := if max (M x0 x1 x2 r h) (-M x0 x1 x2 r h) < ⊤ then M x0 x1 x2 r h else 0

theorem v15_read (r : Fin 1024) (h : Fin 4) : val_main_v15 (F := Ideal) x0 x1 x2 (ix2 r h) = mu x0 x1 x2 r h := by
  rw [val_main_v15_apply, val_main_v14_apply, val_main_v12_apply, val_main_v13_apply, val_main_cst_2_apply, val_main_call1_v1_apply,
    val_main_call1_v0_apply, val_main_cst_3_apply]
  show Scalar.select (Ideal.cmp .olt (max (M x0 x1 x2 r h) (-M x0 x1 x2 r h)) (Ideal.ofBits .f32 0x7F800000#32)) (M x0 x1 x2 r h)
    (Ideal.ofBits .f32 0x00000000#32) = _
  rw [ofBits_top, Ideal.ofBits_zero_f32]
  unfold mu
  by_cases hf : max (M x0 x1 x2 r h) (-M x0 x1 x2 r h) < ⊤
  · rw [if_pos hf, show Ideal.cmp .olt (max (M x0 x1 x2 r h) (-M x0 x1 x2 r h)) ⊤ = 1#1 by simp [Ideal.cmp, hf], select_one]
  · rw [if_neg hf, show Ideal.cmp .olt (max (M x0 x1 x2 r h) (-M x0 x1 x2 r h)) ⊤ = 0#1 by simp only [Ideal.cmp, hf]; rfl, select_zero]

/-- A word below 1024 is not negative, so the reference looks its own row up. -/
theorem wrap_eq (x : BitVec 32) (hx : x.toNat < 1024) : Scalar.select (IntOp.cmpi .slt x 0#32) (IntOp.addi x 1024#32) x = x := by
  have h0 : IntOp.cmpi .slt x 0#32 = 0#1 := eq_zero_of_ne_one fun e => by
    rw [IntOp.cmpi_slt, toInt_of_lt x hx, show (0#32).toInt = 0 from rfl] at e
    omega
  rw [h0, select_zero]

theorem v21_read (n : Fin 100000) (hx : ∀ i, (x2 i).toNat < 1024) : val_main_v21 (F := Ideal) x2 (ix2 n 0) = x2 (ix1 n) := by
  rw [val_main_v21_apply, val_main_v20_apply, val_main_v17_apply, val_main_v16_apply, val_main_c_apply, val_main_v19_apply,
    val_main_v18_apply, val_main_c_4_apply, wrap_eq _ (hx _)]
  exact congrArg x2 (by funext a; match a with | ⟨0, _⟩ => rfl)

theorem v36_read (n : Fin 100000) (hx : ∀ i, (x2 i).toNat < 1024) : val_main_v36 (F := Ideal) x2 (ix2 n 0) = x2 (ix1 n) := by
  rw [val_main_v36_apply, val_main_v35_apply, val_main_v32_apply, val_main_v31_apply, val_main_c_7_apply, val_main_v34_apply,
    val_main_v33_apply, val_main_c_8_apply, wrap_eq _ (hx _)]
  exact congrArg x2 (by funext a; match a with | ⟨0, _⟩ => rfl)

theorem v29_read (n : Fin 100000) : val_main_v29 (F := Ideal) x2 (ix2 n 0) = x2 (ix1 n) := by
  rw [val_main_v29_apply]
  exact congrArg x2 (by funext a; match a with | ⟨0, _⟩ => rfl)

theorem v45_read (n : Fin 100000) : val_main_v45 (F := Ideal) x2 (ix2 n 0) = x2 (ix1 n) := by
  rw [val_main_v45_apply]
  exact congrArg x2 (by funext a; match a with | ⟨0, _⟩ => rfl)

/-- The component of node `n` as a row. -/
def row (hx : ∀ i, (x2 i).toNat < 1024) (n : Fin 100000) : Fin 1024 := ⟨cn x2 n, hx _⟩

theorem look' (x : FVec Ideal S1024x4 .f32) (idx : IVec S100000x1 32) (n : Fin 100000) (h : Fin 4) (hx : ∀ i, (x2 i).toNat < 1024)
    (e : idx (ix2 n 0) = x2 (ix1 n)) :
    Host.gather gather_S1024x4_S100000x1_S100000x4_1_0_n_n_0_1_14 x idx (ix2 n h) = x (ix2 (row x2 hx n) h) := by
  rw [look x idx n h (by rw [e]; exact hx _)]
  refine congrArg (fun r => x (ix2 r h)) (Fin.ext ?_)
  show (idx (ix2 n 0)).toNat = cn x2 n
  rw [e]
  rfl

/-- The shifted exponentials. -/
theorem v26_read (hx : ∀ i, (x2 i).toNat < 1024) (n : Fin 100000) (l h : Fin 4) :
    val_main_v26 (F := Ideal) x0 x1 x2 (ix3 n l h) = Spec.exs (f x0) (q x1) (mu x0 x1 x2 (row x2 hx n) h) n l h := by
  rw [val_main_v26_apply, val_main_v25_apply, v0_read, val_main_v24_apply, val_main_v23_apply]
  have e : val_main_v22 (F := Ideal) x0 x1 x2 (idx_main_v23 (idx_main_v24 (ix3 n l h))) = mu x0 x1 x2 (row x2 hx n) h := by
    rw [← v15_read, ← look' x2 (val_main_v15 (F := Ideal) x0 x1 x2) (val_main_v21 (F := Ideal) x2) n h hx (v21_read x2 n hx)]
    unfold val_main_v22
    exact congrArg _ (by funext a; match a with | ⟨0, _⟩ => rfl | ⟨1, _⟩ => rfl)
  rw [e]
  rfl

/-- The sums of the shifted exponentials by component. -/
theorem v30_read (hx : ∀ i, (x2 i).toNat < 1024) (r : Fin 1024) (h : Fin 4) :
    val_main_v30 (F := Ideal) x0 x1 x2 (ix2 r h)
      = Spec.seg (cn x2) (fun n => ∑ l : Fin 4, Spec.exs (f x0) (q x1) (mu x0 x1 x2 r h) n l h) r.val := by
  unfold val_main_v30
  rw [seg2 _ _ _ (fun i => by rw [val_main_v29_apply]; exact hx _), val_main_v28_apply, val_main_cst_6_apply,
    show (FloatOps.ofBits .f32 0x00000000#32 : Ideal .f32) = (0 : EReal) from Ideal.ofBits_zero_f32, zero_add]
  refine Finset.sum_congr rfl fun n _ => ?_
  rw [v29_read]
  by_cases hc : (x2 (ix1 n)).toNat = r.val
  · rw [if_pos hc, if_pos (show cn x2 n = r.val from hc), val_main_v27_apply, val_main_cst_5_apply,
      show (FloatOps.ofBits .f32 0x00000000#32 : Ideal .f32) = (0 : EReal) from Ideal.ofBits_zero_f32, zero_add]
    refine Finset.sum_congr rfl fun l _ => ?_
    have e : idx_main_v27 (ix2 n h) l = ix3 n l h := by
      funext a; match a with | ⟨0, _⟩ => rfl | ⟨1, _⟩ => rfl | ⟨2, _⟩ => rfl
    rw [e, v26_read x0 x1 x2 hx, show row x2 hx n = r from Fin.ext hc]
  · rw [if_neg hc, if_neg (show ¬ cn x2 n = r.val from hc)]

/-- **The reference's weights** are the specification's, where the sum of each node's component is at least the clamp. -/
theorem v42_read (hx : ∀ i, (x2 i).toNat < 1024)
    (hd : ∀ n h, Spec.eps ≤ Spec.den (f x0) (q x1) (cn x2) (cn x2 n) h) (n : Fin 100000) (l h : Fin 4) :
    val_main_v42 (F := Ideal) x0 x1 x2 (ix3 n l h) = Spec.attn (f x0) (q x1) (cn x2) n l h := by
  rw [val_main_v42_apply, v26_read x0 x1 x2 hx, val_main_v41_apply, val_main_v40_apply, val_main_v39_apply, val_main_cst_9_apply,
    val_main_v38_apply]
  have e : val_main_v37 (F := Ideal) x0 x1 x2 (idx_main_v38 (idx_main_v41 (ix3 n l h)))
      = Spec.seg (cn x2) (fun n' => ∑ l : Fin 4, Spec.exs (f x0) (q x1) (mu x0 x1 x2 (row x2 hx n) h) n' l h) (cn x2 n) := by
    refine Eq.trans ?_ (v30_read x0 x1 x2 hx (row x2 hx n) h)
    rw [← look' x2 (val_main_v30 (F := Ideal) x0 x1 x2) (val_main_v36 (F := Ideal) x2) n h hx (v36_read x2 n hx)]
    unfold val_main_v37
    exact congrArg _ (by funext a; match a with | ⟨0, _⟩ => rfl | ⟨1, _⟩ => rfl)
  rw [e]
  exact Spec.shift_eq (f x0) (q x1) (cn x2) (fun r h => if hr : r < 1024 then M x0 x1 x2 ⟨r, hr⟩ h else ⊥) n l h
    (fun n' l' hc => by
      rw [dif_pos (show cn x2 n < 1024 from hx _)]
      exact le_M x0 x1 x2 _ _ _ _ hc)
    (by
      rw [dif_pos (show cn x2 n < 1024 from hx _)]
      exact M_attained x0 x1 x2 _ _)
    (hd n h) _ (by
      rw [dif_pos (show cn x2 n < 1024 from hx _)]
      rfl)

/-- **The reference's component features** are the specification's. -/
theorem v46_read (hx : ∀ i, (x2 i).toNat < 1024)
    (hd : ∀ n h, Spec.eps ≤ Spec.den (f x0) (q x1) (cn x2) (cn x2 n) h) (r : Fin 1024) (h : Fin 4) (d : Fin 128) :
    val_main_v46 (F := Ideal) x0 x1 x2 (ix3 r h d) = Spec.feat (f x0) (q x1) (cn x2) r.val h d := by
  unfold val_main_v46
  rw [seg3 _ _ _ (fun i => by rw [val_main_v45_apply]; exact hx _), val_main_v44_apply, val_main_cst_10_apply,
    show (FloatOps.ofBits .f32 0x00000000#32 : Ideal .f32) = (0 : EReal) from Ideal.ofBits_zero_f32, zero_add]
  unfold Spec.feat Spec.seg
  refine Finset.sum_congr rfl fun n _ => ?_
  rw [v45_read]
  by_cases hc : (x2 (ix1 n)).toNat = r.val
  · rw [if_pos hc, if_pos (show cn x2 n = r.val from hc), val_main_v43_apply]
    refine Finset.sum_congr rfl fun l _ => ?_
    rw [← v42_read x0 x1 x2 hx hd n l h]
    refine congrArg₂ (· * ·) (congrArg _ ?_) (congrArg x0 ?_)
    · funext a; match a with | ⟨0, _⟩ => rfl | ⟨1, _⟩ => rfl | ⟨2, _⟩ => rfl
    · funext a; match a with | ⟨0, _⟩ => rfl | ⟨1, _⟩ => rfl | ⟨2, _⟩ => rfl
  · rw [if_neg hc, if_neg (show ¬ cn x2 n = r.val from hc)]

end Cert.ReferenceIdeal.RefRead
end
-- ==== Proof.First.lean ====
module

public import proofs.«01_k».proof.Proof.HostRead
public import proofs.«01_k».proof.Proof.Block1
public import proofs.«01_k».proof.Proof.RefRead

/-! What the first kernel leaves: the exponential of every node's scores, and the reciprocal of every component's sum. -/

@[expose] public section

noncomputable section

namespace Cert.KernelIdeal.First

open Idealize.ShloMosaic hiding ix0 ix1 ix2 ix3 ix4
open Idealize.ShloMosaic.ValueIdx Idealize.ShloMosaic.TcCoe
open Cert.KernelIdeal Cert.KernelIdeal.Gen Cert.KernelIdeal.Table Cert.KernelIdeal.Range Cert.KernelIdeal.HostRead Cert.KernelIdeal.Steps
open scoped BigOperators
open Idealize.ShloMosaic.Pipeline (Dat)

/-! ## Sums over nodes by block -/

/-- A sum over the nodes is the sum over the blocks of the sums over their places. -/
theorem sum_nodes (s : Fin 100000 → EReal) : ∑ n, s n = ∑ t : Fin 25, ∑ j : Fin 4000, s (node t j) := by
  rw [← Fintype.sum_prod_type']
  refine (Fintype.sum_equiv (finProdFinEquiv (m := 25) (n := 4000)) _ _ fun p => congrArg s (Fin.ext ?_)).symm
  show 4000 * p.1.val + p.2.val = p.2.val + 4000 * p.1.val
  omega

/-- The sum over the nodes of the first `n` blocks. -/
def upto (s : Fin 100000 → EReal) (n : ℕ) : EReal := ∑ t ∈ Finset.range n, if h : t < 25 then ∑ j : Fin 4000, s (node ⟨t, h⟩ j) else 0

theorem upto_zero (s : Fin 100000 → EReal) : upto s 0 = 0 := Finset.sum_range_zero _
theorem upto_succ (s : Fin 100000 → EReal) (t : Fin 25) : upto s (t.val + 1) = upto s t.val + ∑ j : Fin 4000, s (node t j) := by
  unfold upto
  rw [Finset.sum_range_succ, dif_pos t.isLt]
theorem upto_all (s : Fin 100000 → EReal) : upto s 25 = ∑ n, s n := by
  unfold upto
  rw [sum_nodes, Finset.sum_range]
  exact Finset.sum_congr rfl fun t _ => dif_pos t.isLt

/-- The node of a number, its block and its place. -/
theorem node_surj (n : Fin 100000) : ∃ (t : Fin 25) (j : Fin 4000), n = node t j :=
  ⟨⟨n.val / 4000, by omega⟩, ⟨n.val % 4000, by omega⟩, Fin.ext (by show n.val = 4000 * (n.val / 4000) + n.val % 4000; omega)⟩

variable (m : (ℓ : Loc nD τ sig) → Buf (Elt Ideal) ℓ) (c : Dev nD)

/-- The features, the query and the component numbers, by their indices. -/
def f : Fin 100000 → Fin 4 → Fin 128 → EReal := Cert.ReferenceIdeal.RefRead.f (X0 m c)
def q : Fin 4 → Fin 128 → EReal := Cert.ReferenceIdeal.RefRead.q (X1 m c)
def cn : Fin 100000 → ℕ := Cert.ReferenceIdeal.RefRead.cn (X2 m c)

/-! ## The blocks -/

theorem e0_1 : ∀ t : Fin cfg0.N, win0_1.index t = ![t.val, 0, 0, 0] := by decide +kernel
theorem e0_2 : ∀ t : Fin cfg0.N, win0_2.index t = ![t.val, 1, 0, 0] := by decide +kernel
theorem e0_3 : ∀ t : Fin cfg0.N, win0_3.index t = ![t.val, 2, 0, 0] := by decide +kernel
theorem e0_4 : ∀ t : Fin cfg0.N, win0_4.index t = ![t.val, 3, 0, 0] := by decide +kernel
theorem e0_5 : ∀ t : Fin cfg0.N, win0_5.index t = ![0, 0] := by decide +kernel

theorem fA_read (t : Fin cfg0.N) (j : Fin 4000) (k : Fin 128) : Region0.fA (V1 m) c t (ix4 j 0 0 k) = f m c (node (pt0 t) j) 0 k := by
  refine Eq.trans ?_ (v0_apply m c (node (pt0 t) j) 0 k)
  unfold Region0.fA
  blk_simp
  congr 1
  blk_ext [e0_1, pt0, node]
  all_goals first | rfl | exact congrArg (· + j.val) (Nat.mul_comm _ _)
theorem fB_read (t : Fin cfg0.N) (j : Fin 4000) (k : Fin 128) : Region0.fB (V1 m) c t (ix4 j 0 0 k) = f m c (node (pt0 t) j) 1 k := by
  refine Eq.trans ?_ (v0_apply m c (node (pt0 t) j) 1 k)
  unfold Region0.fB
  blk_simp
  congr 1
  blk_ext [e0_2, pt0, node]
  all_goals first | rfl | exact congrArg (· + j.val) (Nat.mul_comm _ _)
theorem fC_read (t : Fin cfg0.N) (j : Fin 4000) (k : Fin 128) : Region0.fC (V1 m) c t (ix4 j 0 0 k) = f m c (node (pt0 t) j) 2 k := by
  refine Eq.trans ?_ (v0_apply m c (node (pt0 t) j) 2 k)
  unfold Region0.fC
  blk_simp
  congr 1
  blk_ext [e0_3, pt0, node]
  all_goals first | rfl | exact congrArg (· + j.val) (Nat.mul_comm _ _)
theorem fD_read (t : Fin cfg0.N) (j : Fin 4000) (k : Fin 128) : Region0.fD (V1 m) c t (ix4 j 0 0 k) = f m c (node (pt0 t) j) 3 k := by
  refine Eq.trans ?_ (v0_apply m c (node (pt0 t) j) 3 k)
  unfold Region0.fD
  blk_simp
  congr 1
  blk_ext [e0_4, pt0, node]
  all_goals first | rfl | exact congrArg (· + j.val) (Nat.mul_comm _ _)

theorem qm_read (t : Fin cfg0.N) (l : Fin 4) (k : Fin 128) (l' h : Fin 4) :
    Region0.qm (V1 m) c t (ix2 (at512 l k) (at16 l' h)) = if l = l' then q m c h k else 0 := by
  refine Eq.trans ?_ (v21_apply m c l k l' h)
  unfold Region0.qm
  blk_simp
  congr 1
  blk_ext [e0_5]

/-- The component numbers of a block. -/
theorem ids_read (t : Fin cfg0.N) (j : Fin 4000) : (Region0.ids (V1 m) c t (ix3 0 0 j)).toNat = cn m c (node (pt0 t) j) :=
  congrArg BitVec.toNat ((ids0_apply (V1 m) c t (ix3 0 0 j)).trans (v1_apply m c (pt0 t) j))
theorem first_read (t : Fin cfg0.N) : firstId (Region0.ids (V1 m) c t) = BitVec.ofNat 32 (cn m c (node (pt0 t) 0)) := by
  rw [firstId_eq, ← ids_read]
  exact word_eq _
theorem last_read (t : Fin cfg0.N) : lastId (Region0.ids (V1 m) c t) = BitVec.ofNat 32 (cn m c (node (pt0 t) 3999)) := by
  rw [lastId_eq, ← ids_read]
  exact word_eq _

/-- The four layers of a block, together. -/
def layers (t : Fin cfg0.N) : Fin 4 → Vec Ideal S4000x1x1x128 .f32
  | 0 => Region0.fA (V1 m) c t
  | 1 => Region0.fB (V1 m) c t
  | 2 => Region0.fC (V1 m) c t
  | 3 => Region0.fD (V1 m) c t

theorem layers_read (t : Fin cfg0.N) (l : Fin 4) (j : Fin 4000) (k : Fin 128) : layers m c t l (ix4 j 0 0 k) = f m c (node (pt0 t) j) l k := by
  match l with
  | ⟨0, _⟩ => exact fA_read m c t j k
  | ⟨1, _⟩ => exact fB_read m c t j k
  | ⟨2, _⟩ => exact fC_read m c t j k
  | ⟨3, _⟩ => exact fD_read m c t j k

/-- The exponentials of a block. -/
theorem exp_read (t : Fin cfg0.N) (j : Fin 4000) (l h : Fin 4) :
    k0_pay5 (F := Ideal) (Region0.fA (V1 m) c t) (Region0.fB (V1 m) c t) (Region0.fC (V1 m) c t) (Region0.fD (V1 m) c t) (Region0.qm (V1 m) c t) (ix2 j (at16 l h))
      = Spec.ex (f m c) (q m c) (node (pt0 t) j) l h := by
  refine (Block0.pay5_read (layers m c t) (Region0.qm (V1 m) c t) (q m c) (qm_read m c t) j l h).trans ?_
  unfold Spec.ex Spec.sc
  exact congrArg Ideal.exp (Finset.sum_congr rfl fun k _ => by rw [layers_read])

section Sorted

variable (hlt : ∀ n, cn m c n < 1024) (hs : ∀ n n', n ≤ n' → cn m c n ≤ cn m c n')

include hs in
theorem block_sorted (t : Fin 25) (j : Fin 4000) : cn m c (node t 0) ≤ cn m c (node t j) ∧ cn m c (node t j) ≤ cn m c (node t 3999) := by
  refine ⟨hs _ _ ?_, hs _ _ ?_⟩
  · show 4000 * t.val + 0 ≤ 4000 * t.val + j.val; omega
  · show 4000 * t.val + j.val ≤ 4000 * t.val + 3999; have := j.isLt; omega

include hlt hs in
/-- The table of sums before block `n`: each component's sum over the nodes of the blocks before it. -/
theorem den_read (r : Fin 1152) (h : Fin 4) : ∀ n : ℕ, n ≤ 25 → Region0.den (V1 m) c n (ix2 r h)
      = upto (fun i => if cn m c i = r.val then ∑ l, Spec.ex (f m c) (q m c) i l h else 0) n
  | 0, _ => by rw [upto_zero]; exact Block0.pay4_read _
  | n + 1, hn => by
    have ht : n < cfg0.N := lt_of_lt_of_eq (show n < 25 by omega) N_0.symm
    have ih := den_read r h n (by omega)
    rw [Region0.den_succ (V1 m) c ⟨n, ht⟩]
    refine Eq.trans ?_ (upto_succ (fun i => if cn m c i = r.val then ∑ l, Spec.ex (f m c) (q m c) i l h else 0) (pt0 ⟨n, ht⟩)).symm
    rw [Block0.den0_read _ _ _ _ _ _ _ (fun j => cn m c (node (pt0 ⟨n, ht⟩) j)) (ids_read m c ⟨n, ht⟩) (fun j => hlt _)
      (block_sorted m c hs (pt0 ⟨n, ht⟩)) (first_read m c ⟨n, ht⟩) (last_read m c ⟨n, ht⟩) r h]
    refine congrArg₂ (· + ·) ih (Finset.sum_congr rfl fun j _ => if_congr Iff.rfl ?_ rfl)
    rw [Block0.pay6_read]
    exact Finset.sum_congr rfl fun l _ => exp_read m c ⟨n, ht⟩ j l h

include hlt hs in
theorem den_all (r : Fin 1152) (h : Fin 4) : Region0.den (V1 m) c 25 (ix2 r h) = Spec.den (f m c) (q m c) (cn m c) r.val h := by
  rw [den_read m c hlt hs r h 25 le_rfl, upto_all]
  rfl

/-! ## The arrays -/

theorem e0_6 : ∀ t : Fin cfg0.N, win0_6.index t = ![t.val, 0] := by decide +kernel

/-- The column of a layer and a head, taken apart. -/
theorem col16 (y : Fin 16) : ∃ l h : Fin 4, y = at16 l h :=
  ⟨⟨y.val / 4, by omega⟩, ⟨y.val % 4, by omega⟩, Fin.ext (by show y.val = 4 * (y.val / 4) + y.val % 4; omega)⟩

/-- The exponentials as an array of 16 columns. -/
def expArr : FVec Ideal S100000x16 .f32 := fun i =>
  Spec.ex (f m c) (q m c) (i 0) ⟨(i 1).val / 4, by have : (i 1).val < 16 := (i 1).isLt; omega⟩ ⟨(i 1).val % 4, by omega⟩

theorem expArr_read (n : Fin 100000) (l h : Fin 4) : expArr m c (ix2 n (at16 l h)) = Spec.ex (f m c) (q m c) n l h := by
  have hl := l.isLt
  have hh := h.isLt
  unfold expArr
  congr 1
  · exact Fin.ext (by show (4 * l.val + h.val) / 4 = l.val; omega)
  · exact Fin.ext (by show (4 * l.val + h.val) % 4 = h.val; omega)

theorem exp_block (t : Fin cfg0.N) (y : S4000x16.Idx) :
    k0_pay5 (F := Ideal) (Region0.fA (V1 m) c t) (Region0.fB (V1 m) c t) (Region0.fC (V1 m) c t) (Region0.fD (V1 m) c t) (Region0.qm (V1 m) c t) y
      = expArr m c (ix2 (node (pt0 t) (y 0)) (y 1)) := by
  obtain ⟨l, h, hy⟩ := col16 (y 1)
  have e : y = ix2 (y 0) (at16 l h) := (ValueIdx.eq_ix2 y).trans (congrArg (ix2 (y 0)) hy)
  refine (congrArg _ e).trans ((exp_read m c t (y 0) l h).trans ((expArr_read m c _ l h).symm.trans ?_))
  rw [hy]

/-- The first result is that array. -/
theorem v22_0_eq : (Region0.dat (V1 m) c).arrAt 6 cfg0.N = expArr m c := by
  refine Dat.arrAt_eq_of_covers (Region0.dat (V1 m) c) 6 (expArr m c) (by decide +kernel) fun t hf y => ?_
  refine (exp_block m c t y).trans (congrArg (expArr m c) ?_)
  blk_ext [e0_6, pt0, node]
  all_goals first | rfl | exact congrArg (· + (y 0).val) (Nat.mul_comm _ _)

theorem v22_0_read (n : Fin 100000) (l h : Fin 4) :
    (Run.W2 m c main_v22_0 : FVec Ideal S100000x16 .f32) (ix2 n (at16 l h)) = Spec.ex (f m c) (q m c) n l h := by
  refine (congrFun (Run.end0 m c 6).symm _).trans ?_
  rw [v22_0_eq]
  exact expArr_read m c n l h

/-- What the body leaves of the table at the last point. -/
theorem after7 (t : Fin cfg0.N) (n : ℕ) (hn : t.val + 1 = n) : (Region0.dat (V1 m) c).after 7 t = k0_pay3 (Region0.den (V1 m) c n) := by
  subst hn
  rfl

theorem e0_7 : ∀ t : Fin cfg0.N, win0_7.index t = ![0, 0] := by decide +kernel

theorem last7 (n : ℕ) (h : n = 25) (t : Fin cfg0.N) (ht : t.val % 25 = 24) :
    (Region0.dat (V1 m) c).after 7 t = k0_pay3 (F := Ideal) (Region0.den (V1 m) c n) :=
  after7 m c t n (by have := lt_of_lt_of_eq t.isLt N_0; omega)

/-- An array which every last point writes whole with one table is that table. -/
theorem arr7 (X : FVec Ideal S1152x4 .f32) (hX : ∀ t : Fin cfg0.N, t.val % 25 = 24 → (Region0.dat (V1 m) c).after 7 t = X) :
    (Region0.dat (V1 m) c).arrAt 7 cfg0.N = X := by
  refine Dat.arrAt_eq_of_covers (Region0.dat (V1 m) c) 7 X (by decide +kernel) fun t hf y => ?_
  rw [hX t ((flush0_7 t).mp hf)]
  refine congrArg X ?_
  blk_ext [e0_7]

/-- The second result is the table of reciprocals at the last point. -/
theorem v22_1_eq (n : ℕ) (h : n = 25) : (Region0.dat (V1 m) c).arrAt 7 cfg0.N = k0_pay3 (F := Ideal) (Region0.den (V1 m) c n) :=
  arr7 m c _ (last7 m c n h)

include hlt hs in
/-- Its entries: the reciprocals of the sums. -/
theorem v22_1_read (r : Fin 1152) (h : Fin 4) :
    (Run.W2 m c main_v22_1 : FVec Ideal S1152x4 .f32) (ix2 r h) = Ideal.div 1 (max (Spec.den (f m c) (q m c) (cn m c) r.val h) Spec.eps) := by
  rw [← den_all m c hlt hs]
  refine Eq.trans ?_ (Block0.pay3_read _ _)
  exact congrFun ((Run.end0 m c 7).symm.trans (v22_1_eq m c 25 rfl)) (ix2 r h)

end Sorted

end Cert.KernelIdeal.First
end
-- ==== Proof.Second.lean ====
module

public import proofs.«01_k».proof.Proof.First

/-! What the second kernel leaves: every node's weights, and every component's sum of weighted features. -/

@[expose] public section

noncomputable section

namespace Cert.KernelIdeal.Second

open Idealize.ShloMosaic hiding ix0 ix1 ix2 ix3 ix4
open Idealize.ShloMosaic.ValueIdx Idealize.ShloMosaic.TcCoe
open Cert.KernelIdeal Cert.KernelIdeal.Gen Cert.KernelIdeal.Table Cert.KernelIdeal.Range Cert.KernelIdeal.HostRead Cert.KernelIdeal.Steps
open Cert.KernelIdeal.First (f q cn upto upto_zero upto_succ upto_all block_sorted col16)
open Cert.KernelIdeal.Run (W2 W3)
open scoped BigOperators
open Idealize.ShloMosaic.Pipeline (Dat)

variable (m : (ℓ : Loc nD τ sig) → Buf (Elt Ideal) ℓ) (c : Dev nD)

/-! ## The blocks -/

/-- The second kernel finds the features and the column of component numbers as the first kernel did. -/
theorem W2_v0 : W2 m c main_v0 = V1 m c main_v0 := by
  unfold Run.W2
  rw [Function.update_of_ne (by decide), Function.update_of_ne (by decide)]
theorem W2_v2 : W2 m c main_v2 = V1 m c main_v2 := by
  unfold Run.W2
  rw [Function.update_of_ne (by decide), Function.update_of_ne (by decide)]

theorem e1_1 : ∀ t : Fin cfg1.N, win1_1.index t = ![t.val, 0] := by decide +kernel
theorem e1_2 : ∀ t : Fin cfg1.N, win1_2.index t = ![t.val, 0] := by decide +kernel
theorem e1_3 : ∀ t : Fin cfg1.N, win1_3.index t = ![0, 0] := by decide +kernel
theorem e1_4 : ∀ t : Fin cfg1.N, win1_4.index t = ![t.val, 0, 0, 0] := by decide +kernel
theorem e1_5 : ∀ t : Fin cfg1.N, win1_5.index t = ![t.val, 1, 0, 0] := by decide +kernel
theorem e1_6 : ∀ t : Fin cfg1.N, win1_6.index t = ![t.val, 2, 0, 0] := by decide +kernel
theorem e1_7 : ∀ t : Fin cfg1.N, win1_7.index t = ![t.val, 3, 0, 0] := by decide +kernel
theorem e1_8 : ∀ t : Fin cfg1.N, win1_8.index t = ![t.val, 0] := by decide +kernel
theorem e1_9 : ∀ t : Fin cfg1.N, win1_9.index t = ![0, 0] := by decide +kernel

theorem fA_read (t : Fin cfg1.N) (j : Fin 4000) (k : Fin 128) : Region1.fA (W2 m) c t (ix4 j 0 0 k) = f m c (node (pt1 t) j) 0 k := by
  refine Eq.trans ?_ ((congrFun (W2_v0 m c) (ix4 (node (pt1 t) j) 0 0 k)).trans (v0_apply m c (node (pt1 t) j) 0 k))
  unfold Region1.fA
  blk_simp
  congr 1
  blk_ext [e1_4, pt1, node]
  all_goals first | rfl | exact congrArg (· + j.val) (Nat.mul_comm _ _)
theorem fB_read (t : Fin cfg1.N) (j : Fin 4000) (k : Fin 128) : Region1.fB (W2 m) c t (ix4 j 0 0 k) = f m c (node (pt1 t) j) 1 k := by
  refine Eq.trans ?_ ((congrFun (W2_v0 m c) (ix4 (node (pt1 t) j) 1 0 k)).trans (v0_apply m c (node (pt1 t) j) 1 k))
  unfold Region1.fB
  blk_simp
  congr 1
  blk_ext [e1_5, pt1, node]
  all_goals first | rfl | exact congrArg (· + j.val) (Nat.mul_comm _ _)
theorem fC_read (t : Fin cfg1.N) (j : Fin 4000) (k : Fin 128) : Region1.fC (W2 m) c t (ix4 j 0 0 k) = f m c (node (pt1 t) j) 2 k := by
  refine Eq.trans ?_ ((congrFun (W2_v0 m c) (ix4 (node (pt1 t) j) 2 0 k)).trans (v0_apply m c (node (pt1 t) j) 2 k))
  unfold Region1.fC
  blk_simp
  congr 1
  blk_ext [e1_6, pt1, node]
  all_goals first | rfl | exact congrArg (· + j.val) (Nat.mul_comm _ _)
theorem fD_read (t : Fin cfg1.N) (j : Fin 4000) (k : Fin 128) : Region1.fD (W2 m) c t (ix4 j 0 0 k) = f m c (node (pt1 t) j) 3 k := by
  refine Eq.trans ?_ ((congrFun (W2_v0 m c) (ix4 (node (pt1 t) j) 3 0 k)).trans (v0_apply m c (node (pt1 t) j) 3 k))
  unfold Region1.fD
  blk_simp
  congr 1
  blk_ext [e1_7, pt1, node]
  all_goals first | rfl | exact congrArg (· + j.val) (Nat.mul_comm _ _)

/-- The component numbers of a block, as a row and as a column. -/
theorem ids_read (t : Fin cfg1.N) (j : Fin 4000) : (Region1.ids (W2 m) c t (ix3 0 0 j)).toNat = cn m c (node (pt1 t) j) :=
  congrArg BitVec.toNat ((ids1_apply (W2 m) c t (ix3 0 0 j)).trans ((congrFun (W2_v1 m c) _).trans (v1_apply m c (pt1 t) j)))
theorem idc_read (t : Fin cfg1.N) (j : Fin 4000) : (Region1.idc (W2 m) c t (ix2 j 0)).toNat = cn m c (node (pt1 t) j) := by
  refine congrArg BitVec.toNat (Eq.trans ?_ ((congrFun (W2_v2 m c) (ix2 (node (pt1 t) j) 0)).trans (v2_apply m c (node (pt1 t) j))))
  unfold Region1.idc
  blk_simp
  congr 1
  blk_ext [e1_1, pt1, node]
  all_goals first | rfl | exact congrArg (· + j.val) (Nat.mul_comm _ _)
theorem first_read (t : Fin cfg1.N) : firstId (Region1.ids (W2 m) c t) = BitVec.ofNat 32 (cn m c (node (pt1 t) 0)) := by
  rw [firstId_eq, ← ids_read]
  exact word_eq _
theorem last_read (t : Fin cfg1.N) : lastId (Region1.ids (W2 m) c t) = BitVec.ofNat 32 (cn m c (node (pt1 t) 3999)) := by
  rw [lastId_eq, ← ids_read]
  exact word_eq _

/-- The exponentials of a block. -/
theorem ex_read (t : Fin cfg1.N) (j : Fin 4000) (l h : Fin 4) :
    Region1.ex (W2 m) c t (ix2 j (at16 l h)) = Spec.ex (f m c) (q m c) (node (pt1 t) j) l h := by
  refine Eq.trans ?_ (First.v22_0_read m c (node (pt1 t) j) l h)
  unfold Region1.ex
  blk_simp
  congr 1
  blk_ext [e1_2, pt1, node]
  all_goals first | rfl | exact congrArg (· + j.val) (Nat.mul_comm _ _)

/-- The four layers of a block, together. -/
def layers (t : Fin cfg1.N) : Fin 4 → Vec Ideal S4000x1x1x128 .f32
  | 0 => Region1.fA (W2 m) c t
  | 1 => Region1.fB (W2 m) c t
  | 2 => Region1.fC (W2 m) c t
  | 3 => Region1.fD (W2 m) c t

theorem layers_read (t : Fin cfg1.N) (l : Fin 4) (j : Fin 4000) (k : Fin 128) : layers m c t l (ix4 j 0 0 k) = f m c (node (pt1 t) j) l k := by
  match l with
  | ⟨0, _⟩ => exact fA_read m c t j k
  | ⟨1, _⟩ => exact fB_read m c t j k
  | ⟨2, _⟩ => exact fC_read m c t j k
  | ⟨3, _⟩ => exact fD_read m c t j k

section Sorted

variable (hlt : ∀ n, cn m c n < 1024) (hs : ∀ n n', n ≤ n' → cn m c n ≤ cn m c n')

include hlt hs in
/-- The table of reciprocals. -/
theorem rc_read (t : Fin cfg1.N) (r : Fin 1152) (h : Fin 4) :
    Region1.rc (W2 m) c t (ix2 r h) = Ideal.div 1 (max (Spec.den (f m c) (q m c) (cn m c) r.val h) Spec.eps) := by
  refine Eq.trans ?_ (First.v22_1_read m c hlt hs r h)
  unfold Region1.rc
  blk_simp
  congr 1
  blk_ext [e1_3]

include hlt hs in
/-- The weights of a block. -/
theorem attn_read (t : Fin cfg1.N) (j : Fin 4000) (l h : Fin 4) :
    attn1 (F := Ideal) (Region1.ids (W2 m) c t) (Region1.idc (W2 m) c t) (Region1.ex (W2 m) c t) (Region1.rc (W2 m) c t) (ix2 j (at16 l h))
      = Spec.attn (f m c) (q m c) (cn m c) (node (pt1 t) j) l h := by
  rw [Block1.attn1_read, Block1.inv1_read _ _ _ (fun j => cn m c (node (pt1 t) j)) (idc_read m c t) (fun j => hlt _)
    (block_sorted m c hs (pt1 t)) (first_read m c t) (last_read m c t) j h, ex_read, rc_read m c hlt hs]
  rfl

include hlt hs in
/-- The table of component features before block `n`: each component's sum over the nodes of the blocks before it. -/
theorem tab_read (r : Fin 1152) (h : Fin 4) (d : Fin 128) : ∀ n : ℕ, n ≤ 25 → Region1.tab (W2 m) c n (ix2 r (at512 h d))
      = upto (fun i => if cn m c i = r.val then ∑ l, Spec.attn (f m c) (q m c) (cn m c) i l h * f m c i l d else 0) n
  | 0, _ => by rw [upto_zero]; exact Block1.pay5_read _
  | n + 1, hn => by
    have ht : n < cfg1.N := lt_of_lt_of_eq (show n < 25 by omega) N_1.symm
    have ih := tab_read r h d n (by omega)
    rw [Region1.tab_succ (W2 m) c ⟨n, ht⟩]
    refine Eq.trans ?_ (upto_succ (fun i => if cn m c i = r.val then ∑ l, Spec.attn (f m c) (q m c) (cn m c) i l h * f m c i l d else 0) (pt1 ⟨n, ht⟩)).symm
    refine (Block1.feat1_read _ _ _ _ (layers m c ⟨n, ht⟩) _ (fun j => cn m c (node (pt1 ⟨n, ht⟩) j)) (ids_read m c ⟨n, ht⟩) (fun j => hlt _)
      (block_sorted m c hs (pt1 ⟨n, ht⟩)) (first_read m c ⟨n, ht⟩) (last_read m c ⟨n, ht⟩) r h d).trans ?_
    refine congrArg₂ (· + ·) ih (Finset.sum_congr rfl fun j _ => if_congr Iff.rfl ?_ rfl)
    exact Finset.sum_congr rfl fun l _ => by rw [attn_read m c hlt hs, layers_read]

include hlt hs in
theorem tab_all (r : Fin 1152) (h : Fin 4) (d : Fin 128) :
    Region1.tab (W2 m) c 25 (ix2 r (at512 h d)) = Spec.feat (f m c) (q m c) (cn m c) r.val h d := by
  rw [tab_read m c hlt hs r h d 25 le_rfl, upto_all]
  rfl

/-! ## The arrays -/

/-- The weights as an array of 16 columns. -/
def attnArr : FVec Ideal S100000x16 .f32 := fun i =>
  Spec.attn (f m c) (q m c) (cn m c) (i 0) ⟨(i 1).val / 4, by have : (i 1).val < 16 := (i 1).isLt; omega⟩ ⟨(i 1).val % 4, by omega⟩

theorem attnArr_read (n : Fin 100000) (l h : Fin 4) : attnArr m c (ix2 n (at16 l h)) = Spec.attn (f m c) (q m c) (cn m c) n l h := by
  have hl := l.isLt
  have hh := h.isLt
  unfold attnArr
  congr 1
  · exact Fin.ext (by show (4 * l.val + h.val) / 4 = l.val; omega)
  · exact Fin.ext (by show (4 * l.val + h.val) % 4 = h.val; omega)

include hlt hs in
theorem attn_block (t : Fin cfg1.N) (y : S4000x16.Idx) :
    attn1 (F := Ideal) (Region1.ids (W2 m) c t) (Region1.idc (W2 m) c t) (Region1.ex (W2 m) c t) (Region1.rc (W2 m) c t) y
      = attnArr m c (ix2 (node (pt1 t) (y 0)) (y 1)) := by
  obtain ⟨l, h, hy⟩ := col16 (y 1)
  have e : y = ix2 (y 0) (at16 l h) := (ValueIdx.eq_ix2 y).trans (congrArg (ix2 (y 0)) hy)
  refine (congrArg _ e).trans ((attn_read m c hlt hs t (y 0) l h).trans ((attnArr_read m c _ l h).symm.trans ?_))
  rw [hy]

include hlt hs in
/-- The first result is that array. -/
theorem v23_0_eq : (Region1.dat (W2 m) c).arrAt 8 cfg1.N = attnArr m c := by
  refine Dat.arrAt_eq_of_covers (Region1.dat (W2 m) c) 8 (attnArr m c) (by decide +kernel) fun t hf y => ?_
  refine (attn_block m c hlt hs t y).trans (congrArg (attnArr m c) ?_)
  blk_ext [e1_8, pt1, node]
  all_goals first | rfl | exact congrArg (· + (y 0).val) (Nat.mul_comm _ _)

include hlt hs in
/-- Its entries: the weights. -/
theorem v23_0_read (n : Fin 100000) (l h : Fin 4) :
    (W3 m c main_v23_0 : FVec Ideal S100000x16 .f32) (ix2 n (at16 l h)) = Spec.attn (f m c) (q m c) (cn m c) n l h := by
  refine (congrFun (Run.end1 m c 8).symm _).trans ?_
  rw [v23_0_eq m c hlt hs]
  exact attnArr_read m c n l h

/-- What the body leaves of the table of component features. -/
theorem after9 (t : Fin cfg1.N) (n : ℕ) (hn : t.val + 1 = n) : (Region1.dat (W2 m) c).after 9 t = Region1.tab (W2 m) c n := by
  subst hn
  rfl
theorem last9 (n : ℕ) (h : n = 25) (t : Fin cfg1.N) (ht : t.val % 25 = 24) : (Region1.dat (W2 m) c).after 9 t = Region1.tab (W2 m) c n :=
  after9 m c t n (by have := lt_of_lt_of_eq t.isLt N_1; omega)

/-- An array which every last point writes whole with one table is that table. -/
theorem arr9 (X : FVec Ideal S1152x512 .f32) (hX : ∀ t : Fin cfg1.N, t.val % 25 = 24 → (Region1.dat (W2 m) c).after 9 t = X) :
    (Region1.dat (W2 m) c).arrAt 9 cfg1.N = X := by
  refine Dat.arrAt_eq_of_covers (Region1.dat (W2 m) c) 9 X (by decide +kernel) fun t hf y => ?_
  rw [hX t ((flush1_9 t).mp hf)]
  refine congrArg X ?_
  blk_ext [e1_9]

/-- The second result is the table after the last point. -/
theorem v23_1_eq (n : ℕ) (h : n = 25) : (Region1.dat (W2 m) c).arrAt 9 cfg1.N = Region1.tab (W2 m) c n :=
  arr9 m c _ (last9 m c n h)

include hlt hs in
/-- Its entries: the components' sums of weighted features. -/
theorem v23_1_read (r : Fin 1152) (h : Fin 4) (d : Fin 128) :
    (W3 m c main_v23_1 : FVec Ideal S1152x512 .f32) (ix2 r (at512 h d)) = Spec.feat (f m c) (q m c) (cn m c) r.val h d := by
  rw [← tab_all m c hlt hs]
  exact congrFun ((Run.end1 m c 9).symm.trans (v23_1_eq m c 25 rfl)) (ix2 r (at512 h d))

end Sorted

end Cert.KernelIdeal.Second
end
-- ==== Proof.PreFacts.lean ====
module

public import proofs.«01_k».proof.Pre_pre
public import Idealize.ShloMosaic.Lib.Decide
public import Idealize.ShloMosaic.Lib.Exec

/-! The side conditions the precondition's function states, proved. -/

@[expose] public section

namespace Cert.Pre_pre.Proved

open Idealize.ShloMosaic

/-- The function's facts: the instance it takes. -/
instance facts : Cert.Pre_pre.Facts where
  bcast_S_S100000 := by decide
  reducesTo_S100000_S_d0 := by decide
  h_S_ := by decide
  slices_S100000_S99999_0 := by decide
  slices_S100000_S99999_1 := by decide
  reducesTo_S99999_S_d0 := by decide
  reducesTo_S100000x4x4_S100000x4_d1 := by decide
  bcast_S_S1024x4 := by decide
  bcast_S100000_S100000x1_0 := by decide
  bcast_S_S100000x4 := by decide
  reducesTo_S100000x4_S_d0_1 := by decide
  dot_S100000x4x128_S4x128_S100000x4x4_2_1_01_0_n_n_wf := by decide
  scatter_S1024x4_S100000x1_S100000x4_1_0_0_1_wf := by decide
  gather_S1024x4_S100000x1_S100000x4_1_0_n_n_0_1_14_wf := by decide

end Cert.Pre_pre.Proved
-- ==== Proof.PreRead.lean ====
module

public import proofs.«01_k».proof.Proof.PreFacts
public import proofs.«01_k».proof.Proof.RefRead
public import proofs.«01_k».proof.Proof.Range

/-! What the precondition of the value claim says: the component numbers are below 1024 and sorted, and the sum of each
node's component is at least the clamp. -/

@[expose] public section

noncomputable section

namespace Cert.Pre_pre.PreRead

open Idealize.ShloMosaic hiding ix0 ix1 ix2 ix3 ix4
open Idealize.ShloMosaic.ValueIdx
open Cert.ReferenceIdeal.RefRead Cert.ReferenceIdeal.Segment
open scoped BigOperators

instance : Subsingleton Cert.Pre_pre.S_.Idx := ⟨fun a b => funext fun i => i.elim0⟩

variable (x0 : FVec Ideal S100000x4x128 .f32) (x1 : FVec Ideal S4x128 .f32) (x2 : IVec S100000 32)

/-- The component numbers are below 1024. -/
theorem lt_of_pre (h : Cert.Pre_pre.fn (F := Ideal) x0 x1 x2 = fun _ => 1#1) (i : S100000.Idx) : (x2 i).toNat < 1024 := by
  have e := congrFun h ix0
  have e := (IntOp.andi_eq_one.mp e).1
  have e := (IntOp.andi_eq_one.mp e).1
  exact Cert.KernelIdeal.Range.lt_of_tests _ (Host.reduce_andi_all _ _ _ _ _ e i)

/-- Each is at most the next. -/
theorem step_of_pre (h : Cert.Pre_pre.fn (F := Ideal) x0 x1 x2 = fun _ => 1#1) (n : ℕ) (hn : n + 1 < 100000) :
    cn x2 ⟨n, by omega⟩ ≤ cn x2 ⟨n + 1, hn⟩ := by
  have hr := lt_of_pre x0 x1 x2 h
  have e := congrFun h ix0
  have e := (IntOp.andi_eq_one.mp e).1
  have e := (IntOp.andi_eq_one.mp e).2
  have e := Host.reduce_andi_all _ _ _ _ _ e (ix1 (⟨n, by omega⟩ : Fin 99999))
  have a0 : extractStridedSlice S99999 ![0] x2 Facts.slices_S100000_S99999_0 (ix1 (⟨n, by omega⟩ : Fin 99999)) = x2 (ix1 ⟨n, by omega⟩) :=
    extractStridedSlice_apply _ _ _ _ _ fun a => by match a with | ⟨0, _⟩ => show n = 0 + n; omega
  have a1 : extractStridedSlice S99999 ![1] x2 Facts.slices_S100000_S99999_1 (ix1 (⟨n, by omega⟩ : Fin 99999)) = x2 (ix1 ⟨n + 1, hn⟩) :=
    extractStridedSlice_apply _ _ _ _ _ fun a => by match a with | ⟨0, _⟩ => show n + 1 = 1 + n; omega
  replace e : IntOp.cmpi .sle (x2 (ix1 (⟨n, by omega⟩ : Fin 100000))) (x2 (ix1 (⟨n + 1, hn⟩ : Fin 100000))) = 1#1 := by
    rw [← a0, ← a1]; exact e
  rw [IntOp.cmpi_sle, toInt_of_lt _ (hr _), toInt_of_lt _ (hr _)] at e
  exact_mod_cast e

/-- They are sorted. -/
theorem sorted_of_pre (h : Cert.Pre_pre.fn (F := Ideal) x0 x1 x2 = fun _ => 1#1) (n n' : Fin 100000) (hn : n ≤ n') :
    cn x2 n ≤ cn x2 n' := by
  have key : ∀ d : ℕ, ∀ hd : n.val + d < 100000, cn x2 n ≤ cn x2 ⟨n.val + d, hd⟩ := by
    intro d
    induction d with
    | zero => exact fun _ => le_rfl
    | succ d ih => exact fun hd => (ih (by omega)).trans (step_of_pre x0 x1 x2 h (n.val + d) hd)
  have := key (n'.val - n.val) (by have := n'.isLt; have : n.val ≤ n'.val := hn; omega)
  have e : (⟨n.val + (n'.val - n.val), by have := n'.isLt; have : n.val ≤ n'.val := hn; omega⟩ : Fin 100000) = n' :=
    Fin.ext (by have : n.val ≤ n'.val := hn; show n.val + (n'.val - n.val) = n'.val; omega)
  rwa [e] at this

open Cert.ReferenceIdeal.Read in
/-- The table of sums the precondition computes. -/
def tbl : FVec Ideal S1024x4 .f32 :=
  Host.scatterAdd d2 (val_main_v28 (F := Ideal)) (val_main_v29 (F := Ideal) x2)
    (Host.reduceAdd (Host.exp (val_main_v0 (F := Ideal) x0 x1)) (val_main_cst_5 (F := Ideal)) Cert.ReferenceIdeal.Gen.reducesTo_S100000x4x4_S100000x4_d1
      Cert.ReferenceIdeal.Gen.h_S_)

open Cert.ReferenceIdeal.Read in
theorem tbl_read (hx : ∀ i, (x2 i).toNat < 1024) (r : Fin 1024) (h : Fin 4) :
    tbl x0 x1 x2 (ix2 r h) = Spec.den (f x0) (q x1) (cn x2) r.val h := by
  unfold tbl
  rw [seg2 _ _ _ (fun i => by rw [val_main_v29_apply]; exact hx _), val_main_v28_apply, val_main_cst_6_apply,
    show (FloatOps.ofBits .f32 0x00000000#32 : Ideal .f32) = (0 : EReal) from Ideal.ofBits_zero_f32, zero_add]
  unfold Spec.den Spec.seg
  refine Finset.sum_congr rfl fun n _ => ?_
  rw [v29_read]
  by_cases hc : (x2 (ix1 n)).toNat = r.val
  · rw [if_pos hc, if_pos (show cn x2 n = r.val from hc)]
    simp only [Host.reduceAdd, Ideal.hostReduceAdd_def]
    rw [Ideal.hostReduceAdd_single Cert.ReferenceIdeal.Gen.reducesTo_S100000x4x4_S100000x4_d1 (by decide), val_main_cst_5_apply,
      show (FloatOps.ofBits .f32 0x00000000#32 : Ideal .f32) = (0 : EReal) from Ideal.ofBits_zero_f32, zero_add]
    refine Finset.sum_congr rfl fun l _ => ?_
    refine Eq.trans ?_ (congrArg Ideal.exp (v0_read x0 x1 n l h))
    refine congrArg (fun i => Ideal.exp (val_main_v0 (F := Ideal) x0 x1 i)) ?_
    funext a
    exact Fin.ext (by match a with | ⟨0, _⟩ => rfl | ⟨1, _⟩ => rfl | ⟨2, _⟩ => rfl)
  · rw [if_neg hc, if_neg (show ¬ cn x2 n = r.val from hc)]

/-- The sum of each node's component is at least the clamp. -/
theorem den_of_pre (h : Cert.Pre_pre.fn (F := Ideal) x0 x1 x2 = fun _ => 1#1) (n : Fin 100000) (hh : Fin 4) :
    Spec.eps ≤ Spec.den (f x0) (q x1) (cn x2) (cn x2 n) hh := by
  have hr := lt_of_pre x0 x1 x2 h
  have e := congrFun h ix0
  have e := (IntOp.andi_eq_one.mp e).2
  replace e : Host.reduce IntOp.andi (cmpf (F := Ideal) .oge (Host.gather Cert.ReferenceIdeal.gather_S1024x4_S100000x1_S100000x4_1_0_n_n_0_1_14
      (tbl x0 x1 x2) (Cert.ReferenceIdeal.Read.val_main_v21 (F := Ideal) x2))
      (broadcastInDim S100000x4 ![] Facts.bcast_S_S100000x4 (constant (F := Ideal) S_ .f32 0x3089705F#32)))
      (constantI S_ 1 1#1) Facts.reducesTo_S100000x4_S_d0_1 Facts.h_S_ ix0 = 1#1 := e
  have e := Host.reduce_andi_all _ _ _ _ _ e (ix2 n hh)
  rw [cmpf_apply, broadcastInDim_apply _ _ _ _ ix0 (fun a => a.elim0)] at e
  replace e : Ideal.cmp .oge (Host.gather Cert.ReferenceIdeal.gather_S1024x4_S100000x1_S100000x4_1_0_n_n_0_1_14 (tbl x0 x1 x2)
      (Cert.ReferenceIdeal.Read.val_main_v21 (F := Ideal) x2) (ix2 n hh)) Spec.eps = 1#1 := e
  rw [look' x2 _ _ n hh hr (v21_read x2 n hr), tbl_read x0 x1 x2 hr] at e
  by_contra hc
  rw [show Ideal.cmp .oge (Spec.den (f x0) (q x1) (cn x2) (row x2 hr n).val hh) Spec.eps = 0#1 by
    unfold Ideal.cmp
    simp only
    rw [decide_eq_false (show ¬ Spec.eps ≤ Spec.den (f x0) (q x1) (cn x2) (row x2 hr n).val hh from hc)]; rfl] at e
  exact absurd e (by decide)

end Cert.Pre_pre.PreRead
end
-- ==== Proof.Results.lean ====
module

public import proofs.«01_k».proof.Proof.Second
public import proofs.«01_k».proof.Proof.PreRead

/-! The two programs' results: the same numbers, the same weights, the same component features. -/

@[expose] public section

noncomputable section

namespace Cert.KernelIdeal.Results

open Idealize.ShloMosaic hiding ix0 ix1 ix2 ix3 ix4
open Idealize.ShloMosaic.ValueIdx Idealize.ShloMosaic.TcCoe
open Cert.KernelIdeal Cert.KernelIdeal.Gen Cert.KernelIdeal.Table Cert.KernelIdeal.HostRead
open Cert.KernelIdeal.First (f q cn)
open Cert.KernelIdeal.Run (W3 W4)

variable (m : (ℓ : Loc nD τ sig) → Buf (Elt Ideal) ℓ) (c : Dev nD)

/-- The component features are the first 1024 rows of the second kernel's table, by head. -/
theorem v25_eq : (W4 m c main_v25 : FVec Ideal S1024x4x128 .f32)
    = shapeCast S1024x4x128 (extractStridedSlice S1024x512 ![0, 0] (W3 m c main_v23_1 : FVec Ideal S1152x512 .f32) slices_S1152x512_S1024x512_0_0)
        shapeCasts_S1024x512_S1024x4x128 := by
  unfold W4
  after_results
  rfl

/-- The weights are the second kernel's columns, by layer and head. -/
theorem v26_eq : (W4 m c main_v26 : FVec Ideal S100000x4x4 .f32)
    = shapeCast S100000x4x4 (W3 m c main_v23_0 : FVec Ideal S100000x16 .f32) shapeCasts_S100000x16_S100000x4x4 := by
  unfold W4
  after_results
  rfl

/-- The third result numbers the components. -/
theorem v27_eq : (W4 m c main_v27 : IVec S1024 32) = iotaInDim S1024 32 0 := by
  unfold W4
  after_results

section Sorted

variable (hlt : ∀ n, cn m c n < 1024) (hs : ∀ n n', n ≤ n' → cn m c n ≤ cn m c n')

include hlt hs in
theorem v25_read (r : Fin 1024) (h : Fin 4) (d : Fin 128) :
    (W4 m c main_v25 : FVec Ideal S1024x4x128 .f32) (ix3 r h d) = Spec.feat (f m c) (q m c) (cn m c) r.val h d := by
  rw [v25_eq]
  refine (shapeCast_apply _ _ _ (ix2 r (at512 h d)) ?_).trans ?_
  · rw [Shape.rowMajor_val_three, Shape.rowMajor_val_two]
    show r.val * 512 + (128 * h.val + d.val) = (r.val * 4 + h.val) * 128 + d.val
    omega
  · refine (extractStridedSlice_apply _ _ _ _ (ix2 ⟨r.val, by omega⟩ (at512 h d))
      (fun a => by match a with | ⟨0, _⟩ => exact (Nat.zero_add _).symm | ⟨1, _⟩ => exact (Nat.zero_add _).symm)).trans ?_
    exact Second.v23_1_read m c hlt hs ⟨r.val, by omega⟩ h d

include hlt hs in
theorem v26_read (n : Fin 100000) (l h : Fin 4) :
    (W4 m c main_v26 : FVec Ideal S100000x4x4 .f32) (ix3 n l h) = Spec.attn (f m c) (q m c) (cn m c) n l h := by
  rw [v26_eq]
  refine (shapeCast_apply _ _ _ (ix2 n (at16 l h)) ?_).trans (Second.v23_0_read m c hlt hs n l h)
  rw [Shape.rowMajor_val_three, Shape.rowMajor_val_two]
  show n.val * 16 + (4 * l.val + h.val) = (n.val * 4 + l.val) * 4 + h.val
  omega

end Sorted

variable (hp : Cert.Pre_pre.fn (F := Ideal) (X0 m c) (X1 m c) (X2 m c) = fun _ => 1#1)

include hp in
/-- The component features are the reference's. -/
theorem v25_ref : (W4 m c main_v25 : FVec Ideal S1024x4x128 .f32) = Cert.ReferenceIdeal.Read.val_main_v46 (F := Ideal) (X0 m c) (X1 m c) (X2 m c) := by
  funext i
  rw [ValueIdx.eq_ix3 i]
  refine (v25_read m c (fun n => Cert.Pre_pre.PreRead.lt_of_pre _ _ _ hp _) (Cert.Pre_pre.PreRead.sorted_of_pre _ _ _ hp) (i 0) (i 1) (i 2)).trans ?_
  exact (Cert.ReferenceIdeal.RefRead.v46_read (X0 m c) (X1 m c) (X2 m c) (Cert.Pre_pre.PreRead.lt_of_pre _ _ _ hp)
    (Cert.Pre_pre.PreRead.den_of_pre _ _ _ hp) (i 0) (i 1) (i 2)).symm

include hp in
/-- The weights are the reference's. -/
theorem v26_ref : (W4 m c main_v26 : FVec Ideal S100000x4x4 .f32) = Cert.ReferenceIdeal.Read.val_main_v42 (F := Ideal) (X0 m c) (X1 m c) (X2 m c) := by
  funext i
  rw [ValueIdx.eq_ix3 i]
  refine (v26_read m c (fun n => Cert.Pre_pre.PreRead.lt_of_pre _ _ _ hp _) (Cert.Pre_pre.PreRead.sorted_of_pre _ _ _ hp) (i 0) (i 1) (i 2)).trans ?_
  exact (Cert.ReferenceIdeal.RefRead.v42_read (X0 m c) (X1 m c) (X2 m c) (Cert.Pre_pre.PreRead.lt_of_pre _ _ _ hp)
    (Cert.Pre_pre.PreRead.den_of_pre _ _ _ hp) (i 0) (i 1) (i 2)).symm

end Cert.KernelIdeal.Results
end
-- ==== Proof.lean ====
/- The kernel as printed, the same kernel over the extended reals, and the reference all run, fault nowhere, and leave
   their arguments and every counter as they found them; and over the extended reals the kernel's three results are
   the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Range
public import proofs.«01_k».proof.Proof.Results
public import proofs.«01_k».proof.Proof.PreFacts
public import proofs.«01_k».proof.Proof.Printed.Range
public import proofs.«01_k».proof.Proof.Gen.Pre_ids
public import Idealize.ShloMosaic.Adequacy
public import Idealize.ShloMosaic.Init

@[expose] public section

noncomputable section

namespace Cert.Proof

open Idealize.ShloMosaic Idealize.ShloMosaic.TcCoe Idealize.SL.Sem Cert.Kernel

/-- Under the range precondition the idealized kernel runs. -/
theorem frameIdeal : Cert.quiescent_KernelIdeal := fun m g h =>
  Cert.KernelIdeal.Range.frame m (fun c => Cert.KernelIdeal.Range.lt_of_ids _ _ _ (h c)) g

/-- And under the value claim's precondition. -/
theorem frameIdeal_pre : Cert.quiescent_KernelIdeal_pre_pre := fun m g h =>
  Cert.KernelIdeal.Range.frame m (fun c => Cert.Pre_pre.PreRead.lt_of_pre _ _ _ (h c)) g

/-- And the kernel as printed. -/
theorem frameKernel : Cert.quiescent_Kernel := fun m g h =>
  Cert.Kernel.Range.frame m (fun c => Cert.Kernel.Range.lt_of_ids _ _ _ (h c)) g

/-- The reference runs from any memory: it is a line of host operations and declares no counter. -/
theorem frameRef : Cert.quiescent_ReferenceIdeal := fun m g _ =>
  (θ_run Cert.ReferenceIdeal.defs _ _).mono (fun r h => ⟨fun c => (h c).2.2.2,
    Idealize.ShloMosaic.sem_eq_zero_of_no_sems (by decide) r.2⟩) (Cert.ReferenceIdeal.Value.run m g)

/-- And so under the value claim's precondition. -/
theorem frameRef_pre : Cert.quiescent_ReferenceIdeal_pre_pre := fun m g _ =>
  (θ_run Cert.ReferenceIdeal.defs _ _).mono (fun r h => ⟨fun c => (h c).2.2.2,
    Idealize.ShloMosaic.sem_eq_zero_of_no_sems (by decide) r.2⟩) (Cert.ReferenceIdeal.Value.run m g)

/-- From memories that agree on the arguments, the kernel's component features, weights and component numbers are the
reference's, over the extended reals. -/
theorem algebraic : Cert.algebraic_KernelIdeal_ReferenceIdeal_pre_pre := fun m g m' g' hp ha => by
  refine ⟨fun c => Cert.KernelIdeal.Run.W4 m c Cert.KernelIdeal.main_v25, fun c => Cert.KernelIdeal.Run.W4 m c Cert.KernelIdeal.main_v26,
    fun c => Cert.KernelIdeal.Run.W4 m c Cert.KernelIdeal.main_v27, ?_, ?_⟩
  · exact (θ_run Cert.KernelIdeal.defs _ _).mono (fun r h c => ⟨h.1 c Cert.KernelIdeal.main_v25 rfl, h.1 c Cert.KernelIdeal.main_v26 rfl,
      h.1 c Cert.KernelIdeal.main_v27 rfl, (h.1 c Cert.KernelIdeal.main_arg0 rfl).trans (Cert.KernelIdeal.Range.W4_arg0 m c),
      (h.1 c Cert.KernelIdeal.main_arg1 rfl).trans (Cert.KernelIdeal.Range.W4_arg1 m c),
      (h.1 c Cert.KernelIdeal.main_arg2 rfl).trans (Cert.KernelIdeal.Range.W4_arg2 m c)⟩)
      (Cert.KernelIdeal.Range.run m (fun c => Cert.Pre_pre.PreRead.lt_of_pre _ _ _ (hp c)) g)
  · refine (θ_run Cert.ReferenceIdeal.defs _ _).mono (fun r h c => ⟨(h c).1.trans ?_, (h c).2.1.trans ?_, (h c).2.2.1.trans ?_, (h c).2.2.2⟩)
      (Cert.ReferenceIdeal.Value.run m' g')
    · refine (Cert.ReferenceIdeal.Read.val_main_v46_eq m' c).trans (Eq.trans ?_ (Cert.KernelIdeal.Results.v25_ref m c (hp c)).symm)
      rw [(ha c).1, (ha c).2.1, (ha c).2.2]
      rfl
    · refine (Cert.ReferenceIdeal.Read.val_main_v42_eq m' c).trans (Eq.trans ?_ (Cert.KernelIdeal.Results.v26_ref m c (hp c)).symm)
      rw [(ha c).1, (ha c).2.1, (ha c).2.2]
      rfl
    · exact (Cert.KernelIdeal.Results.v27_eq m c).symm

/-- The claims. -/
theorem claim : Cert.Claim := ⟨Cert.Kernel.Gen.facts, Cert.KernelIdeal.Gen.facts, Cert.ReferenceIdeal.Gen.facts, Cert.Pre_ids.Gen.facts,
  Cert.Pre_pre.Proved.facts, frameKernel, frameIdeal, frameIdeal_pre, frameRef, frameRef_pre, trivial, algebraic⟩

end Cert.Proof

end
